-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite_inputs : Cert.Pre_finite_inputs.Facts),
    quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S1024x64 : Shape := ⟨2, ![1024, 64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x1024x64 .f32) (main_arg1 : FVec F S1024x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== KernelIdeal.lean ====
abbrev S32x1024x64 : Shape := ⟨3, ![32, 1024, 64]⟩
abbrev S1024x64 : Shape := ⟨2, ![1024, 64]⟩
abbrev S32768x64 : Shape := ⟨2, ![32768, 64]⟩
abbrev S16384 : Shape := ⟨1, ![16384]⟩
abbrev S1x1 : Shape := ⟨2, ![1, 1]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1x1024x1 : Shape := ⟨3, ![1, 1024, 1]⟩
abbrev S1 : Shape := ⟨1, ![1]⟩
abbrev S1x1x1 : Shape := ⟨3, ![1, 1, 1]⟩
abbrev S16384x128 : Shape := ⟨2, ![16384, 128]⟩
abbrev S512 : Shape := ⟨1, ![512]⟩
abbrev S128x128 : Shape := ⟨2, ![128, 128]⟩
abbrev S_ : Shape := ⟨0, ![]⟩
abbrev S128 : Shape := ⟨1, ![128]⟩
abbrev S4096x64 : Shape := ⟨2, ![4096, 64]⟩
abbrev S4096x128 : Shape := ⟨2, ![4096, 128]⟩
abbrev S32768 : Shape := ⟨1, ![32768]⟩

abbrev nBuf : Table → Nat
  | .hbm => 15
  | .local .tc .vmem => 26
  | .local .scVector .vmem => 6
  | _ => 0

abbrev bufTy : (tb : Table) → Fin (nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S16384, .i32⟩
  | .hbm, ⟨4, _⟩ => ⟨S1x1, .f32⟩
  | .hbm, ⟨5, _⟩ => ⟨S1024x128, .f32⟩
  | .hbm, ⟨6, _⟩ => ⟨S16384x128, .f32⟩
  | .hbm, ⟨7, _⟩ => ⟨S16384, .i32⟩
  | .hbm, ⟨8, _⟩ => ⟨S1x1, .f32⟩
  | .hbm, ⟨9, _⟩ => ⟨S16384x128, .f32⟩
  | .hbm, ⟨10, _⟩ => ⟨S32768x64, .f32⟩
  | .hbm, ⟨11, _⟩ => ⟨S32768x64, .f32⟩
  | .hbm, ⟨12, _⟩ => ⟨S32768, .i32⟩
  | .hbm, ⟨13, _⟩ => ⟨S32x1024x64, .f32⟩
  | .hbm, ⟨14, _⟩ => ⟨S_, .f32⟩
  | .local .tc .vmem, ⟨0, _⟩ => ⟨S1024x64, .f32⟩
  | .local .tc .vmem, ⟨1, _⟩ => ⟨S1024x64, .f32⟩
  | .local .tc .vmem, ⟨2, _⟩ => ⟨S1024x64, .f32⟩
  | .local .tc .vmem, ⟨3, _⟩ => ⟨S1024, .i32⟩
  | .local .tc .vmem, ⟨4, _⟩ => ⟨S1024, .i32⟩
  | .local .tc .vmem, ⟨5, _⟩ => ⟨S1x1, .f32⟩
  | .local .tc .vmem, ⟨6, _⟩ => ⟨S1024x128, .f32⟩
  | .local .tc .vmem, ⟨7, _⟩ => ⟨S1024x64, .f32⟩
  | .local .tc .vmem, ⟨8, _⟩ => ⟨S1024x64, .f32⟩
  | .local .tc .vmem, ⟨9, _⟩ => ⟨S1024x64, .f32⟩
  | .local .tc .vmem, ⟨10, _⟩ => ⟨S1x1, .f32⟩
  | .local .tc .vmem, ⟨11, _⟩ => ⟨S1024, .i32⟩
  | .local .tc .vmem, ⟨12, _⟩ => ⟨S1024, .i32⟩
  | .local .tc .vmem, ⟨13, _⟩ => ⟨S1x1, .f32⟩
  | .local .tc .vmem, ⟨14, _⟩ => ⟨S4096x64, .f32⟩
  | .local .tc .vmem, ⟨15, _⟩ => ⟨S4096x64, .f32⟩
  | .local .tc .vmem, ⟨16, _⟩ => ⟨S4096x128, .f32⟩
  | .local .tc .vmem, ⟨17, _⟩ => ⟨S4096x128, .f32⟩
  | .local .tc .vmem, ⟨18, _⟩ => ⟨S4096x64, .f32⟩
  | .local .tc .vmem, ⟨19, _⟩ => ⟨S4096x64, .f32⟩
  | .local .tc .vmem, ⟨20, _⟩ => ⟨S4096x64, .f32⟩
  | .local .tc .vmem, ⟨21, _⟩ => ⟨S4096x64, .f32⟩
  | .local .tc .vmem, ⟨22, _⟩ => ⟨S4096x128, .f32⟩
  | .local .tc .vmem, ⟨23, _⟩ => ⟨S4096x128, .f32⟩
  | .local .tc .vmem, ⟨24, _⟩ => ⟨S4096x64, .f32⟩
  | .local .tc .vmem, ⟨25, _⟩ => ⟨S4096x64, .f32⟩
  | .local .scVector .vmem, ⟨0, _⟩ => ⟨S512, .i32⟩
  | .local .scVector .vmem, ⟨1, _⟩ => ⟨S128x128, .f32⟩
  | .local .scVector .vmem, ⟨2, _⟩ => ⟨S128x128, .f32⟩
  | .local .scVector .vmem, ⟨3, _⟩ => ⟨S512, .i32⟩
  | .local .scVector .vmem, ⟨4, _⟩ => ⟨S128x128, .f32⟩
  | .local .scVector .vmem, ⟨5, _⟩ => ⟨S128x128, .f32⟩
  | _, _ => ⟨S32x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v1_2_scv : Ref sig .scVector := ⟨.hbm, 5, rfl⟩
abbrev main_v1_0_scv : Ref sig .scVector := ⟨.hbm, 3, rfl⟩
abbrev main_v2_scv : Ref sig .scVector := ⟨.hbm, 6, rfl⟩
abbrev main_v3_0_scv : Ref sig .scVector := ⟨.hbm, 7, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_stg1_0 : Ref sig .tc := ⟨.vmem, 16, rfl⟩
abbrev cc4_stg1_1 : Ref sig .tc := ⟨.vmem, 17, rfl⟩
abbrev cc4_stg2_0 : Ref sig .tc := ⟨.vmem, 18, rfl⟩
abbrev cc4_stg2_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc5_stg2_0 : Ref sig .tc := ⟨.vmem, 24, rfl⟩
abbrev cc5_stg2_1 : Ref sig .tc := ⟨.vmem, 25, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_11 : BitVec 32 := 0#32
  let v34 : BitVec 1 := Scalar.cmpi .ne v33 c0_i32_11
  v34

def k0_cond2 (i : grid0.Coords) : BitVec 1 :=
  let arg0 : BitVec 32 := BitVec.ofNat 32 (i 0).val
  let c0_i32_12 : BitVec 32 := 0#32
  let v35 : BitVec 1 := Scalar.cmpi .sgt arg0 c0_i32_12
  let v36 : BitVec 32 := Scalar.extui v35
  let c0_i32_13 : BitVec 32 := 0#32
  let v37 : BitVec 1 := Scalar.cmpi .ne v36 c0_i32_13
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_7 : BitVec 32 := 512#32
  let v9 : BitVec 32 := Scalar.muli v1 c512_i32_7
  let v10 : BitVec 32 := Scalar.addi v9 c0_i32_8
  let c0_i32_9 : BitVec 32 := 0#32
  ![v10.toNat, 0]
abbrev grid2 : Pipeline.Grid := ⟨1, ![16], ![false]⟩

def k2_cond1 (i : grid2.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_11 : BitVec 32 := 0#32
  let v34 : BitVec 1 := Scalar.cmpi .ne v33 c0_i32_11
  v34

def k2_cond2 (i : grid2.Coords) : BitVec 1 :=
  let arg0 : BitVec 32 := BitVec.ofNat 32 (i 0).val
  let c0_i32_12 : BitVec 32 := 0#32
  let v35 : BitVec 1 := Scalar.cmpi .sgt arg0 c0_i32_12
  let v36 : BitVec 32 := Scalar.extui v35
  let c0_i32_13 : BitVec 32 := 0#32
  let v37 : BitVec 1 := Scalar.cmpi .ne v36 c0_i32_13
  v37

def k2_cond3 (i : grid2.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_14 : BitVec 32 := 0#32
  let v40 : BitVec 1 := Scalar.cmpi .ne v39 c0_i32_14
  v40

def cc2_transform_0 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_7 : BitVec 32 := 512#32
  let v9 : BitVec 32 := Scalar.muli v1 c512_i32_7
  let v10 : BitVec 32 := Scalar.addi v9 c0_i32_8
  let c0_i32_9 : BitVec 32 := 0#32
  ![v10.toNat, 0]
abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x1024x64 : Shape := ⟨3, ![32, 1024, 64]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S64x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S1, .i32⟩
  | .hbm, ⟨34, _⟩ => ⟨S_, .i32⟩
  | .hbm, ⟨35, _⟩ => ⟨S32768x1, .i32⟩
  | .hbm, ⟨36, _⟩ => ⟨S32768x1, .i1⟩
  | .hbm, ⟨37, _⟩ => ⟨S1x1, .i32⟩
  | .hbm, ⟨38, _⟩ => ⟨S32768x1, .i32⟩
  | .hbm, ⟨39, _⟩ => ⟨S32768x1, .i1⟩
  | .hbm, ⟨40, _⟩ => ⟨S32768x1, .i1⟩
  | .hbm, ⟨41, _⟩ => ⟨S_, .i1⟩
  | .hbm, ⟨42, _⟩ => ⟨S32768, .i1⟩
  | .hbm, ⟨43, _⟩ => ⟨S32768x64, .f32⟩
  | .hbm, ⟨44, _⟩ => ⟨S32768x64, .i1⟩
  | .hbm, ⟨45, _⟩ => ⟨S_, .f32⟩
  | .hbm, ⟨46, _⟩ => ⟨S32768x64, .f32⟩
  | .hbm, ⟨47, _⟩ => ⟨S32768x64, .f32⟩
  | .hbm, ⟨48, _⟩ => ⟨S32x1024x64, .f32⟩
  | .hbm, ⟨49, _⟩ => ⟨S32x1024x64, .f32⟩
  | .hbm, ⟨50, _⟩ => ⟨S32x1024x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32x1024x64, .f32⟩
  | .hbm, ⟨56, _⟩ => ⟨S32x1024x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32x1024x64, .f32⟩
  | .hbm, ⟨65, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Rows.lean ====
/- What the gather writes: row `x` of the result is the table's row that word `x` of the list names. Stated of any
   memrefs of the kernel's shapes, so that both calls use it. -/
module

public import Idealize.ShloMosaic.Lib.SparseCore.Stream
public import Idealize.ShloMosaic.Lib.Writes
public import Idealize.ShloMosaic.Lib.Tactic
public import proofs.«01_k».proof.Proof.Gen.KernelIdeal

@[expose] public section

namespace Cert.Proof.Rows

open Idealize.ShloMosaic Cert.KernelIdeal

variable {F : FTy → Type}

/-- The gathered rows as a function of the table and of the list of row numbers. -/
def gOut (fe : S1024x128.Idx → Elt F .f32) (fi : S16384.Idx → Elt F .i32) : S16384x128.Idx → Elt F .f32 :=
  fun x => fe (fun | 0 => Fin.ofNat 1024 (BitVec.toNat (fi (fun | 0 => x 0))) | 1 => x 1)

/-- The first row that task `L` copies. -/
def base (L : grid1.Coords) : ℕ := (2 * (L 1).val + (L 0).val) * 512

theorem bnd0 (L : grid1.Coords) : (L 0).val < 2 := (L 0).isLt
theorem bnd1 (L : grid1.Coords) : (L 1).val < 16 := (L 1).isLt

theorem off1_val (L : grid1.Coords) : k1_off1 L 0 = base L := by
  have h0 := bnd0 L; have h1 := bnd1 L
  simp only [k1_off1, base, Scalar.muli, Scalar.addi, IntOp.muli, IntOp.addi, Matrix.cons_val_zero, BitVec.toNat_mul, BitVec.toNat_add, BitVec.toNat_ofNat]
  omega

theorem off2_val (L : grid1.Coords) (r : Fin 4) : k1_off2 L (BitVec.ofNat 32 (128 * r.val)) 0 = base L + 128 * r.val := by
  have h0 := bnd0 L; have h1 := bnd1 L
  have hr := r.isLt
  simp only [k1_off2, base, Scalar.muli, Scalar.addi, IntOp.muli, IntOp.addi, Matrix.cons_val_zero, BitVec.toNat_mul, BitVec.toNat_add, BitVec.toNat_ofNat]
  omega

theorem off2_one (L : grid1.Coords) (w : BitVec 32) : k1_off2 L w 1 = 0 := by
  simp [k1_off2]

section Views

variable {κ : Kind} {sp : Space} {s : Shape} {e : EltTy}

/-- Two contents that a view reads the same agree on the view's elements. -/
theorem eq_of_read (v : View sig κ sp s e) {f g : v.ty.Contents (Elt F)} (h : ∀ y, v.read (Elt F) f y = v.read (Elt F) g y) :
    ∀ i ∈ v.set, f i = g i := by
  intro i hi
  obtain ⟨y, -, rfl⟩ := Finset.mem_map.mp hi
  have := h y
  rw [View.read_apply, View.read_apply] at this
  exact (cast_inj _).mp this

/-- A slice's read is the view's at the rectangle's element. -/
theorem read_slice (m : Memref sig κ sp s e) (r : Rect s) {t : Shape} (h : r.shape = t) (hu) (f) (y) :
    (m.slice r hu).view.read (Elt F) f y = m.view.read (Elt F) f (r.emb y) := rfl

/-- What was last written to the whole of a view is what it reads. -/
theorem read_writes_whole (v : View sig κ sp s e) (f : v.ty.Contents (Elt F)) (w : s.Idx → Elt F e) (l : List (View.Piece (Elt F) s e)) :
    v.read (Elt F) (v.writes (Elt F) f (⟨Rect.whole s, w⟩ :: l)) = w :=
  funext fun y => by
    have := v.read_writes_cons_emb (Val := Elt F) f (Rect.whole s) w l y
    rwa [Rect.emb_whole_apply] at this

end Views

section Block

variable (L : grid1.Coords) {κ : Kind} {sp sp' : Space}
  (eM : Memref sig κ sp S1024x128 .f32) (iM : Memref sig κ sp S16384 .i32) (sM : Memref sig κ sp' S512 .i32)
  (fe : eM.view.ty.Contents (Elt F)) (fi : iM.view.ty.Contents (Elt F)) (fs : sM.view.ty.Contents (Elt F))
  (hi1 : ∀ a, k1_off1 L a + S512.size a ≤ S16384.size a)

/-- Word `x` of a part of the task's list, after the copy, is word `base L + off + x` of the whole list. -/
theorem list_word (off : Fin 1 → ℕ) (h : ∀ a, off a + S128.size a ≤ S512.size a) (x : S128.Idx) :
    (sM.slice (Rect.unit (s := S512) off S128.size h) (fun _ => rfl)).view.read (Elt F)
      (View.write (Elt F) sM.view fs ((iM.slice (Rect.unit (s := S16384) (k1_off1 L) S512.size hi1) (fun _ => rfl)).view.read (Elt F) fi) Finset.univ) x
    = iM.view.read (Elt F) fi ((Rect.unit (s := S16384) (k1_off1 L) S512.size hi1).emb ((Rect.unit (s := S512) off S128.size h).emb x)) := by
  rw [read_slice (t := S128) (h := rfl), View.read_write_univ, read_slice (t := S512) (h := rfl)]

/-- Every word of a part of the task's list is below 1024 when every word of the list is. -/
theorem list_lt (hin : ∀ j, (iM.view.read (Elt F) fi j).toNat < 1024) (off : Fin 1 → ℕ) (h : ∀ a, off a + S128.size a ≤ S512.size a) (x : S128.Idx) :
    ((sM.slice (Rect.unit (s := S512) off S128.size h) (fun _ => rfl)).view.read (Elt F)
      (View.write (Elt F) sM.view fs ((iM.slice (Rect.unit (s := S16384) (k1_off1 L) S512.size hi1) (fun _ => rfl)).view.read (Elt F) fi) Finset.univ) x).toNat < 1024 := by
  rw [list_word]; exact hin _

/-- The rows that one gather of 128 rows delivers. -/
theorem payload_eq (hg : S1024x128.Gathers 0 S128x128) (hin : ∀ j, (iM.view.read (Elt F) fi j).toNat < 1024) (r : Fin 4) (off : Fin 1 → ℕ) (hoff : off 0 = 128 * r.val)
    (h : ∀ a, off a + S128.size a ≤ S512.size a) (he0 : ∀ a, (![0, 0] : Fin 2 → ℕ) a + S1024x128.size a ≤ S1024x128.size a) (hn) (hlt)
    (ho : ∀ a, k1_off2 L (BitVec.ofNat 32 (128 * r.val)) a + S128x128.size a ≤ S16384x128.size a) (y : S128x128.Idx) :
    SparseCore.gatherPayload hg ((eM.slice (Rect.unit (s := S1024x128) ![0, 0] S1024x128.size he0) (fun _ => rfl)).view.read (Elt F) fe)
      (SparseCore.rows ((sM.slice (Rect.unit (s := S512) off S128.size h) (fun _ => rfl)).view.read (Elt F)
        (View.write (Elt F) sM.view fs ((iM.slice (Rect.unit (s := S16384) (k1_off1 L) S512.size hi1) (fun _ => rfl)).view.read (Elt F) fi) Finset.univ)) hn hlt) y
    = gOut (eM.view.read (Elt F) fe) (iM.view.read (Elt F) fi)
        ((Rect.unit (s := S16384x128) (k1_off2 L (BitVec.ofNat 32 (128 * r.val))) S128x128.size ho).emb y) := by
  unfold SparseCore.gatherPayload gOut
  rw [read_slice (t := S1024x128) (h := rfl)]
  congr 1
  funext b
  apply Fin.ext
  rw [Rect.emb_apply]
  match b with
  | 0 =>
    refine (show _ = _ from congrArg (fun t => 0 + 1 * Fin.val t) (Shape.Gathers.idx_axis hg _ y)).trans ?_
    simp only [SparseCore.rows, Nat.zero_add, Nat.one_mul, Fin.val_ofNat]
    rw [list_word, Nat.mod_eq_of_lt]
    · congr 2
      refine funext fun a => ?_
      match a with
      | 0 =>
        apply Fin.ext
        set z := S128.rowMajor.symm ((y hg.axis').cast hn.symm) with hz
        have hzv : (z 0).val = (y 0).val := by
          have := Shape.rowMajor_val_one (d := S128.size) z
          rw [← this, hz]; exact congrArg Fin.val (S128.rowMajor.apply_symm_apply _)
        rw [Rect.emb_apply, Rect.emb_apply, Rect.emb_apply]
        show k1_off1 L 0 + 1 * (off 0 + 1 * (z 0).val) = k1_off2 L (BitVec.ofNat 32 (128 * r.val)) 0 + 1 * (y 0).val
        rw [off1_val, off2_val, hoff, hzv]; omega
    · exact hin _
  | 1 =>
    refine (show _ = _ from congrArg (fun t => 0 + 1 * t) (Shape.Gathers.idx_of_ne hg _ y 1 (by decide))).trans ?_
    show 0 + 1 * (y 1).val = k1_off2 L (BitVec.ofNat 32 (128 * r.val)) 1 + 1 * (y 1).val
    rw [off2_one]

/-- The 128 rows that one write-out leaves are those of `gOut`, over the block's elements. -/
theorem out_congr (oM : Memref sig κ sp S16384x128 .f32) (fo G : oM.view.ty.Contents (Elt F))
    (hG : oM.view.read (Elt F) G = gOut (eM.view.read (Elt F) fe) (iM.view.read (Elt F) fi)) (r : Fin 4)
    (ho : ∀ a, k1_off2 L (BitVec.ofNat 32 (128 * r.val)) a + S128x128.size a ≤ S16384x128.size a) (w : S128x128.Idx → Elt F .f32)
    (hw : ∀ y, w y = gOut (eM.view.read (Elt F) fe) (iM.view.read (Elt F) fi)
        ((Rect.unit (s := S16384x128) (k1_off2 L (BitVec.ofNat 32 (128 * r.val))) S128x128.size ho).emb y)) :
    ∀ i ∈ (oM.slice (Rect.unit (s := S16384x128) (k1_off2 L (BitVec.ofNat 32 (128 * r.val))) S128x128.size ho) (fun _ => rfl)).view.set,
      (oM.slice (Rect.unit (s := S16384x128) (k1_off2 L (BitVec.ofNat 32 (128 * r.val))) S128x128.size ho) (fun _ => rfl)).view.writes (Elt F) fo
        [⟨Rect.whole S128x128, w⟩] i = G i := by
  refine eq_of_read _ fun y => ?_
  refine (congrFun (read_writes_whole (oM.slice (Rect.unit (s := S16384x128) (k1_off2 L (BitVec.ofNat 32 (128 * r.val))) S128x128.size ho)
    (fun _ => rfl)).view fo w []) y).trans ?_
  rw [hw, ← hG]; rfl

/-- The same of what a gather delivered. -/
theorem out_rows (oM : Memref sig κ sp S16384x128 .f32) (fo G : oM.view.ty.Contents (Elt F))
    (hG : oM.view.read (Elt F) G = gOut (eM.view.read (Elt F) fe) (iM.view.read (Elt F) fi)) (hg : S1024x128.Gathers 0 S128x128)
    (hin : ∀ j, (iM.view.read (Elt F) fi j).toNat < 1024) (r : Fin 4) (off : Fin 1 → ℕ) (hoff : off 0 = 128 * r.val)
    (h : ∀ a, off a + S128.size a ≤ S512.size a) (he0 : ∀ a, (![0, 0] : Fin 2 → ℕ) a + S1024x128.size a ≤ S1024x128.size a) (hn) (hlt)
    (ho : ∀ a, k1_off2 L (BitVec.ofNat 32 (128 * r.val)) a + S128x128.size a ≤ S16384x128.size a) (w : S128x128.Idx → Elt F .f32)
    (hw : w = SparseCore.gatherPayload hg ((eM.slice (Rect.unit (s := S1024x128) ![0, 0] S1024x128.size he0) (fun _ => rfl)).view.read (Elt F) fe)
      (SparseCore.rows ((sM.slice (Rect.unit (s := S512) off S128.size h) (fun _ => rfl)).view.read (Elt F)
        (View.write (Elt F) sM.view fs ((iM.slice (Rect.unit (s := S16384) (k1_off1 L) S512.size hi1) (fun _ => rfl)).view.read (Elt F) fi) Finset.univ)) hn hlt)) :
    ∀ i ∈ (oM.slice (Rect.unit (s := S16384x128) (k1_off2 L (BitVec.ofNat 32 (128 * r.val))) S128x128.size ho) (fun _ => rfl)).view.set,
      (oM.slice (Rect.unit (s := S16384x128) (k1_off2 L (BitVec.ofNat 32 (128 * r.val))) S128x128.size ho) (fun _ => rfl)).view.writes (Elt F) fo
        [⟨Rect.whole S128x128, w⟩] i = G i :=
  out_congr L eM iM fe fi oM fo G hG r ho w fun y =>
    (congrFun hw y).trans (payload_eq L eM iM sM fe fi fs hi1 hg hin r off hoff h he0 hn hlt ho y)

end Block

end Cert.Proof.Rows
end
-- ==== Proof.Tile.lean ====
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Rows
public import proofs.«01_k».proof.Proof.Gen.KernelIdeal.Skeleton

/-!
One task of the SparseCore gather: it copies its 512 words of the index list, gathers the rows they name in four blocks of 128
through two row buffers, and copies each block to the output. Both calls of the gather have this text; they differ in the arrays.
-/

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' rounds, the pipelines' rounds, the transfers' counters. -/
abbrev UU : Type := URounds (GSem nD τ sig) ℕ × (URounds (GSem nD τ sig) Unit × Counters)

local notation "𝕄" => MT nD τ sig (HIx 2) (Elt F) ℕ UU ℕ

abbrev 𝒱₀ : Variants := Variants.none

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

section Res

variable (L : grid1.Coords) (eM : Memref sig .scVector .hbm S1024x128 .f32) (iM : Memref sig .scVector .hbm S16384 .i32)
  (oM : Memref sig .scVector .hbm S16384x128 .f32) (sM : Memref sig .scVector .vmem S512 .i32)
  (r0M r1M : Memref sig .scVector .vmem S128x128 .f32)

/-- The task's 512 words of the index list. -/
abbrev iSl : Memref sig .scVector .hbm S512 .i32 := iM.slice (Rect.unit (s := S16384) (k1_off1 L) S512.size (k1_off1_inb L)) (fun _ => rfl)
/-- The task's `r`th block of 128 rows of the output. -/
abbrev oSl (r : Fin 4) : Memref sig .scVector .hbm S128x128 .f32 :=
  oM.slice (Rect.unit (s := S16384x128) (k1_off2 L (BitVec.ofNat 32 (128 * r.val))) S128x128.size (k1_off2_inb L r)) (fun _ => rfl)

variable (d : Dev nD) (q q' : PosShare TreeShare) (fe : eM.view.ty.Contents (Elt F)) (fi : iM.view.ty.Contents (Elt F)) (g : oM.view.ty.Contents (Elt F))

/-- What the task holds of the arrays: two shares of the table, its part of the list, its four blocks of the output at `g`. -/
def arrays : sProp 𝕄 :=
  iprop((eM.view.loc (thr d L) ↦[eM.view.set]{q} fe)
    ∗ (eM.view.loc (thr d L) ↦[eM.view.set]{q'} fe)
    ∗ ((iSl L iM).view.loc (thr d L) ↦[(iSl L iM).view.set]{fullShare} fi)
    ∗ ((oSl L oM 0).view.loc (thr d L) ↦[(oSl L oM 0).view.set]{fullShare} g)
    ∗ ((oSl L oM 1).view.loc (thr d L) ↦[(oSl L oM 1).view.set]{fullShare} g)
    ∗ ((oSl L oM 2).view.loc (thr d L) ↦[(oSl L oM 2).view.set]{fullShare} g)
    ∗ ((oSl L oM 3).view.loc (thr d L) ↦[(oSl L oM 3).view.set]{fullShare} g))

/-- The task's own buffers, at whatever contents. -/
def scratch : sProp 𝕄 :=
  iprop((∃ f, sM.view.loc (thr d L) ↦{fullShare} f) ∗ (∃ f, r0M.view.loc (thr d L) ↦{fullShare} f) ∗ (∃ f, r1M.view.loc (thr d L) ↦{fullShare} f))

/-- The task's five semaphores, at zero. -/
def sems (a8 a9 a10 a11 a12 : DmaSems sig S_) : sProp 𝕄 :=
  iprop(semVal (thr d L, .dma a8.sem) 0 ∗ semVal (thr d L, .dma a9.sem) 0 ∗ semVal (thr d L, .dma a10.sem) 0
    ∗ semVal (thr d L, .dma a11.sem) 0 ∗ semVal (thr d L, .dma a12.sem) 0)

end Res

section First

local notation "eM" => (Memref.whole Cert.KernelIdeal.main_v1_2_scv : Memref Cert.KernelIdeal.sig Kind.scVector Space.hbm Cert.KernelIdeal.S1024x128 EltTy.f32)
local notation "iM" => (Memref.whole Cert.KernelIdeal.main_v1_0_scv : Memref Cert.KernelIdeal.sig Kind.scVector Space.hbm Cert.KernelIdeal.S16384 EltTy.i32)
local notation "oM" => (Memref.whole Cert.KernelIdeal.main_v2_scv : Memref Cert.KernelIdeal.sig Kind.scVector Space.hbm Cert.KernelIdeal.S16384x128 EltTy.f32)
local notation "sM" => (Memref.whole Cert.KernelIdeal.cc1_scratch0 : Memref Cert.KernelIdeal.sig Kind.scVector Space.vmem Cert.KernelIdeal.S512 EltTy.i32)
local notation "r0M" => (Memref.whole Cert.KernelIdeal.cc1_scratch1 : Memref Cert.KernelIdeal.sig Kind.scVector Space.vmem Cert.KernelIdeal.S128x128 EltTy.f32)
local notation "r1M" => (Memref.whole Cert.KernelIdeal.cc1_scratch2 : Memref Cert.KernelIdeal.sig Kind.scVector Space.vmem Cert.KernelIdeal.S128x128 EltTy.f32)

set_option maxHeartbeats 4000000 in
/-- A task of the first gather: it leaves its four blocks at the rows that its part of the list names. -/
theorem body1 [FloatOps F] (d : Dev nD) (L : grid1.Coords) (a8 a9 a10 a11 a12 : DmaSems sig S_) (q q' : PosShare TreeShare)
    (fe : S1024x128.Idx → Elt F .f32) (fi : S16384.Idx → Elt F .i32) (fo : S16384x128.Idx → Elt F .f32) (hin : ∀ j, BitVec.toNat (fi j) < 1024)
    (O : CellTallies nD τ sig (HIx 2)) (W : Waits sig (HIx 2)) :
    iprop(Transfers.MayWaits (thr d L) (default : HIx 2) O
        ∗ arrays L eM iM oM d q q' fe fi fo ∗ scratch L sM r0M r1M d ∗ sems L d a8 a9 a10 a11 a12 ∗ owes (thr d L) O W)
      ⊢ (wp frame (wpE (defs₀ (F := F)) 𝒱₀ (thr d L) none) Set.univ
          (cc1__sc_gather L eM (Memref.isWhole_whole _) iM (Memref.isWhole_whole _) oM (Memref.isWhole_whole _) sM (Memref.isWhole_whole _)
            r0M (Memref.isWhole_whole _) r1M (Memref.isWhole_whole _) a8 a9 a10 a11 a12)
          fun _ => iprop(arrays L eM iM oM d q q' fe fi (Rows.gOut fe fi) ∗ scratch L sM r0M r1M d ∗ sems L d a8 a9 a10 a11 a12
            ∗ ∃ W', ⌜∀ p ∈ W', p ∈ W ∨ p.2 = none⌝ ∗ owes (thr d L) O W') : sProp 𝕄) := by
  rw [cc1__sc_gather_eq_skeleton]; unfold cc1__sc_gather_skel
  rw [k1_part1_eq_skeleton, k1_part2_eq_skeleton]; unfold k1_part1_skel k1_part2_skel
  unfold arrays scratch sems
  iintro ⟨#Hmw, ⟨He, He', Hi, Ho0, Ho1, Ho2, Ho3⟩, ⟨⟨%fs, Hs⟩, ⟨%f0, Hr0⟩, ⟨%f1, Hr1⟩⟩, ⟨H8, H9, H10, H11, H12⟩, HO⟩
  have hin' := Rows.list_lt (F := F) L iM sM fi fs (k1_off1_inb L) hin
  sl_exec
  sl_step
  isplitl [He He' Hi Ho0 Ho1 Ho2 Ho3]
  · isplitl [He]; · iexact He
    isplitl [He']; · iexact He'
    isplitl [Hi]; · iexact Hi
    have key := fun r off h0 h he hn hl w hw => Rows.out_rows (F := F) L eM iM sM fe fi fs (k1_off1_inb L) oM fo (Rows.gOut fe fi) rfl
      gathers_S1024x128_S128x128 hin r off h0 h he hn hl (k1_off2_inb L r) w hw
    isplitl [Ho0]
    · iapply (Entails.of_eq (pointsTo_congr (key 0 ![0] rfl inb_S512_S128_0 _ _ _ _ (Rows.read_writes_whole _ _ _ _)))); iexact Ho0
    isplitl [Ho1]
    · iapply (Entails.of_eq (pointsTo_congr (key 1 ![128] rfl inb_S512_S128_128 _ _ _ _ (Rows.read_writes_whole _ _ _ _)))); iexact Ho1
    isplitl [Ho2]
    · iapply (Entails.of_eq (pointsTo_congr (key 2 ![256] rfl inb_S512_S128_256 _ _ _ _ (Rows.read_writes_whole _ _ _ _)))); iexact Ho2
    iapply (Entails.of_eq (pointsTo_congr (key 3 ![384] rfl inb_S512_S128_384 _ _ _ _ (Rows.read_writes_whole _ _ _ _)))); iexact Ho3
  isplitl [Hs Hr0 Hr1]
  · isplitl [Hs]; · iexists _; iexact Hs
    isplitl [Hr0]; · iexists _; iexact Hr0
    iexists _; iexact Hr1
  isplitl [H8 H9 H10 H11 H12]
  · isplitl [H8]; · iexact H8
    isplitl [H9]; · iexact H9
    isplitl [H10]; · iexact H10
    isplitl [H11]; · iexact H11
    iexact H12
  iexists _; isplitr
  swap; · iexact HO
  ipureintro; intro p hp
  simp only [Finset.mem_insert] at hp
  rcases hp with hp | hp | hp | hp | hp | hp | hp | hp | hp | hp
  all_goals first | exact .inr (hp ▸ rfl) | exact .inl hp

end First

section Second

local notation "eM" => (Memref.whole Cert.KernelIdeal.main_v1_2_scv : Memref Cert.KernelIdeal.sig Kind.scVector Space.hbm Cert.KernelIdeal.S1024x128 EltTy.f32)
local notation "iM" => (Memref.whole Cert.KernelIdeal.main_v3_0_scv : Memref Cert.KernelIdeal.sig Kind.scVector Space.hbm Cert.KernelIdeal.S16384 EltTy.i32)
local notation "oM" => (Memref.whole Cert.KernelIdeal.main_v4_scv : Memref Cert.KernelIdeal.sig Kind.scVector Space.hbm Cert.KernelIdeal.S16384x128 EltTy.f32)
local notation "sM" => (Memref.whole Cert.KernelIdeal.cc3_scratch0 : Memref Cert.KernelIdeal.sig Kind.scVector Space.vmem Cert.KernelIdeal.S512 EltTy.i32)
local notation "r0M" => (Memref.whole Cert.KernelIdeal.cc3_scratch1 : Memref Cert.KernelIdeal.sig Kind.scVector Space.vmem Cert.KernelIdeal.S128x128 EltTy.f32)
local notation "r1M" => (Memref.whole Cert.KernelIdeal.cc3_scratch2 : Memref Cert.KernelIdeal.sig Kind.scVector Space.vmem Cert.KernelIdeal.S128x128 EltTy.f32)

set_option maxHeartbeats 4000000 in
/-- A task of the second gather, whose text is the first's: it leaves its four blocks at the rows that its part of the list names. -/
theorem body3 [FloatOps F] (d : Dev nD) (L : grid1.Coords) (a8 a9 a10 a11 a12 : DmaSems sig S_) (q q' : PosShare TreeShare)
    (fe : S1024x128.Idx → Elt F .f32) (fi : S16384.Idx → Elt F .i32) (fo : S16384x128.Idx → Elt F .f32) (hin : ∀ j, BitVec.toNat (fi j) < 1024)
    (O : CellTallies nD τ sig (HIx 2)) (W : Waits sig (HIx 2)) :
    iprop(Transfers.MayWaits (thr d L) (default : HIx 2) O
        ∗ arrays L eM iM oM d q q' fe fi fo ∗ scratch L sM r0M r1M d ∗ sems L d a8 a9 a10 a11 a12 ∗ owes (thr d L) O W)
      ⊢ (wp frame (wpE (defs₀ (F := F)) 𝒱₀ (thr d L) none) Set.univ
          (cc3__sc_gather L eM (Memref.isWhole_whole _) iM (Memref.isWhole_whole _) oM (Memref.isWhole_whole _) sM (Memref.isWhole_whole _)
            r0M (Memref.isWhole_whole _) r1M (Memref.isWhole_whole _) a8 a9 a10 a11 a12)
          fun _ => iprop(arrays L eM iM oM d q q' fe fi (Rows.gOut fe fi) ∗ scratch L sM r0M r1M d ∗ sems L d a8 a9 a10 a11 a12
            ∗ ∃ W', ⌜∀ p ∈ W', p ∈ W ∨ p.2 = none⌝ ∗ owes (thr d L) O W') : sProp 𝕄) := by
  rw [show @cc3__sc_gather = @cc1__sc_gather from rfl, cc1__sc_gather_eq_skeleton]; unfold cc1__sc_gather_skel
  rw [k1_part1_eq_skeleton, k1_part2_eq_skeleton]; unfold k1_part1_skel k1_part2_skel
  unfold arrays scratch sems
  iintro ⟨#Hmw, ⟨He, He', Hi, Ho0, Ho1, Ho2, Ho3⟩, ⟨⟨%fs, Hs⟩, ⟨%f0, Hr0⟩, ⟨%f1, Hr1⟩⟩, ⟨H8, H9, H10, H11, H12⟩, HO⟩
  have hin' := Rows.list_lt (F := F) L iM sM fi fs (k1_off1_inb L) hin
  sl_exec
  sl_step
  isplitl [He He' Hi Ho0 Ho1 Ho2 Ho3]
  · isplitl [He]; · iexact He
    isplitl [He']; · iexact He'
    isplitl [Hi]; · iexact Hi
    have key := fun r off h0 h he hn hl w hw => Rows.out_rows (F := F) L eM iM sM fe fi fs (k1_off1_inb L) oM fo (Rows.gOut fe fi) rfl
      gathers_S1024x128_S128x128 hin r off h0 h he hn hl (k1_off2_inb L r) w hw
    isplitl [Ho0]
    · iapply (Entails.of_eq (pointsTo_congr (key 0 ![0] rfl inb_S512_S128_0 _ _ _ _ (Rows.read_writes_whole _ _ _ _)))); iexact Ho0
    isplitl [Ho1]
    · iapply (Entails.of_eq (pointsTo_congr (key 1 ![128] rfl inb_S512_S128_128 _ _ _ _ (Rows.read_writes_whole _ _ _ _)))); iexact Ho1
    isplitl [Ho2]
    · iapply (Entails.of_eq (pointsTo_congr (key 2 ![256] rfl inb_S512_S128_256 _ _ _ _ (Rows.read_writes_whole _ _ _ _)))); iexact Ho2
    iapply (Entails.of_eq (pointsTo_congr (key 3 ![384] rfl inb_S512_S128_384 _ _ _ _ (Rows.read_writes_whole _ _ _ _)))); iexact Ho3
  isplitl [Hs Hr0 Hr1]
  · isplitl [Hs]; · iexists _; iexact Hs
    isplitl [Hr0]; · iexists _; iexact Hr0
    iexists _; iexact Hr1
  isplitl [H8 H9 H10 H11 H12]
  · isplitl [H8]; · iexact H8
    isplitl [H9]; · iexact H9
    isplitl [H10]; · iexact H10
    isplitl [H11]; · iexact H11
    iexact H12
  iexists _; isplitr
  swap; · iexact HO
  ipureintro; intro p hp
  simp only [Finset.mem_insert] at hp
  rcases hp with hp | hp | hp | hp | hp | hp | hp | hp | hp | hp
  all_goals first | exact .inr (hp ▸ rfl) | exact .inl hp

end Second

end Cert.Proof.Tile

end
-- ==== Proof.Deal.lean ====
/- How the table, the list and the output of one gather split among its 2 × 16 tasks, and join again. -/
module

public import proofs.«01_k».proof.Proof.Tile

@[expose] public section

noncomputable section

namespace Cert.Proof.Deal

open Cert.KernelIdeal Cert.KernelIdeal.Gen Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The coordinates of the task of subcore `i` of SparseCore `c`. -/
def coords (c : Fin (grid1.bound 0)) (i : Fin (grid1.bound 1)) : grid1.Coords :=
  fun | 0 => c | 1 => i | ⟨_ + 2, h⟩ => absurd h (Nat.not_lt.2 (Nat.le_add_left _ _))

theorem base_coords (c : Fin 2) (i : Fin 16) : Rows.base (coords c i) = (2 * i.val + c.val) * 512 := rfl

/-! ## The rectangles -/

abbrev rectI (t : Fin 2 × Fin 16) : Rect S16384 :=
  Rect.unit (s := S16384) (k1_off1 (coords t.1 t.2)) S512.size (k1_off1_inb (coords t.1 t.2))
abbrev rectO (t : Fin 2 × Fin 16 × Fin 4) : Rect S16384x128 :=
  Rect.unit (s := S16384x128) (k1_off2 (coords t.1 t.2.1) (BitVec.ofNat 32 (128 * t.2.2.val))) S128x128.size (k1_off2_inb (coords t.1 t.2.1) t.2.2)

theorem mem_rectI (t : Fin 2 × Fin 16) (x : S16384.Idx) :
    x ∈ (rectI t).set ↔ (2 * t.2.val + t.1.val) * 512 ≤ (x 0).val ∧ (x 0).val < (2 * t.2.val + t.1.val) * 512 + 512 := by
  rw [Rect.mem_set_unit]
  constructor
  · intro h
    have := h 0
    rwa [Rows.off1_val, base_coords] at this
  · intro h a
    match a with
    | 0 => rw [Rows.off1_val, base_coords]; exact h

theorem mem_rectO (t : Fin 2 × Fin 16 × Fin 4) (x : S16384x128.Idx) :
    x ∈ (rectO t).set ↔ (2 * t.2.1.val + t.1.val) * 512 + 128 * t.2.2.val ≤ (x 0).val
      ∧ (x 0).val < (2 * t.2.1.val + t.1.val) * 512 + 128 * t.2.2.val + 128 := by
  rw [Rect.mem_set_unit]
  constructor
  · intro h
    have := h 0
    rwa [Rows.off2_val, base_coords] at this
  · intro h a
    match a with
    | 0 => rw [Rows.off2_val, base_coords]; exact h
    | 1 => rw [Rows.off2_one]; exact ⟨Nat.zero_le _, by rw [Nat.zero_add]; exact (x 1).isLt⟩

theorem rectI_disjoint : ∀ t ∈ (Finset.univ : Finset (Fin 2 × Fin 16)), ∀ t' ∈ (Finset.univ : Finset (Fin 2 × Fin 16)), t ≠ t' →
    Disjoint (rectI t).set (rectI t').set := by
  intro t _ t' _ h
  rw [Finset.disjoint_left]
  intro x hx hx'
  rw [mem_rectI] at hx hx'
  apply h
  have := t.1.isLt; have := t'.1.isLt
  ext <;> omega

theorem rectI_cover : (Finset.univ : Finset (Fin 2 × Fin 16)).biUnion (fun t => (rectI t).set) = Finset.univ := by
  ext x
  simp only [Finset.mem_biUnion, Finset.mem_univ, true_and, iff_true]
  have hx : (x 0).val < 16384 := (x 0).isLt
  refine ⟨(⟨(x 0).val / 512 % 2, by omega⟩, ⟨(x 0).val / 1024, by omega⟩), ?_⟩
  rw [mem_rectI]
  dsimp only; omega

theorem rectO_disjoint : ∀ t ∈ (Finset.univ : Finset (Fin 2 × Fin 16 × Fin 4)), ∀ t' ∈ (Finset.univ : Finset (Fin 2 × Fin 16 × Fin 4)), t ≠ t' →
    Disjoint (rectO t).set (rectO t').set := by
  intro t _ t' _ h
  rw [Finset.disjoint_left]
  intro x hx hx'
  rw [mem_rectO] at hx hx'
  apply h
  have := t.1.isLt; have := t'.1.isLt; have := t.2.2.isLt; have := t'.2.2.isLt
  ext <;> omega

theorem rectO_cover : (Finset.univ : Finset (Fin 2 × Fin 16 × Fin 4)).biUnion (fun t => (rectO t).set) = Finset.univ := by
  ext x
  simp only [Finset.mem_biUnion, Finset.mem_univ, true_and, iff_true]
  have hx : (x 0).val < 16384 := (x 0).isLt
  refine ⟨(⟨(x 0).val / 512 % 2, by omega⟩, ⟨(x 0).val / 1024, by omega⟩, ⟨(x 0).val / 128 % 4, by omega⟩), ?_⟩
  rw [mem_rectO]
  dsimp only; omega

theorem sep_assoc_eq (P Q R : sProp 𝕄) : iprop((P ∗ Q) ∗ R) = iprop(P ∗ Q ∗ R) := Entails.antisymm BI.sep_assoc BI.sep_assoc'

/-! ## Shares of the table -/

/-- SparseCore `c`'s share of the table, task `i`'s of that, and its two halves, one for each gather in flight. -/
abbrev qTask (c : Fin 2) (i : Fin 16) : PosShare TreeShare := Transfers.shareTokN (Transfers.shareTokN fullShare c.val) i.val
abbrev qA (c : Fin 2) (i : Fin 16) : PosShare TreeShare := (qTask c i).left
abbrev qB (c : Fin 2) (i : Fin 16) : PosShare TreeShare := (qTask c i).right

/-- What is left of the table's full share while the tasks run. -/
def rest (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTokN fullShare c.val) 16} f)

theorem table_eq (ℓ : Loc nD τ sig) (f : Buf (Elt F) ℓ) :
    (ℓ ↦{fullShare} f : sProp 𝕄) = iprop(rest ℓ f ∗ bigSep Finset.univ fun c : Fin 2 => bigSep Finset.univ fun i : Fin 16 =>
      iprop((ℓ ↦{qA c i} f) ∗ ℓ ↦{qB c i} f)) := by
  have e1 : ∀ (q : PosShare TreeShare) (n : ℕ), (ℓ ↦{q} f : sProp 𝕄) = _ := fun q n =>
    Entails.antisymm (Transfers.pointsTo_toks q n).1 (Transfers.pointsTo_toks q n).2
  have e2 : ∀ q : PosShare TreeShare, (ℓ ↦{q} f : sProp 𝕄) = iprop((ℓ ↦{q.left} f) ∗ ℓ ↦{q.right} f) := fun q =>
    Entails.antisymm (pointsTo_share (PosShare.mem_left_op_right q)).1 (pointsTo_share (PosShare.mem_left_op_right q)).2
  have e3 : (bigSep Finset.univ fun c : Fin 2 => (ℓ ↦{Transfers.shareTok fullShare 2 c} f : sProp 𝕄))
      = iprop((bigSep Finset.univ fun c : Fin 2 => ℓ ↦{Transfers.shareDrop (Transfers.shareTokN fullShare c.val) 16} f)
        ∗ bigSep Finset.univ fun c : Fin 2 => bigSep Finset.univ fun i : Fin 16 => iprop((ℓ ↦{qA c i} f) ∗ ℓ ↦{qB c i} f)) := by
    rw [← bigSep_sep']
    refine bigSep_congr fun c _ => ?_
    rw [e1 (Transfers.shareTok fullShare 2 c) 16]
    congr 1
    exact bigSep_congr fun i _ => e2 _
  unfold rest
  rw [e1 fullShare 2, e3]
  simp only [sep_assoc_eq]

/-! ## The three arrays at once -/

variable {ℓe ℓi ℓo : Loc nD τ sig} (fe : Buf (Elt F) ℓe) (fi : Buf (Elt F) ℓi) (g : Buf (Elt F) ℓo)

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The table, the list and the output are what stays behind and every task's pieces. -/
theorem deal (Ue : Finset (Idx ℓe)) (hUe : Ue = Finset.univ) (KI : Fin 2 → Fin 16 → Finset (Idx ℓi)) (KO : Fin 2 → Fin 16 → Fin 4 → Finset (Idx ℓo))
    (dI : ∀ t ∈ (Finset.univ : Finset (Fin 2 × Fin 16)), ∀ t' ∈ (Finset.univ : Finset (Fin 2 × Fin 16)), t ≠ t' → Disjoint (KI t.1 t.2) (KI t'.1 t'.2))
    (cI : (Finset.univ : Finset (Fin 2 × Fin 16)).biUnion (fun t => KI t.1 t.2) = Finset.univ)
    (dO : ∀ t ∈ (Finset.univ : Finset (Fin 2 × Fin 16 × Fin 4)), ∀ t' ∈ (Finset.univ : Finset (Fin 2 × Fin 16 × Fin 4)), t ≠ t' →
      Disjoint (KO t.1 t.2.1 t.2.2) (KO t'.1 t'.2.1 t'.2.2))
    (cO : (Finset.univ : Finset (Fin 2 × Fin 16 × Fin 4)).biUnion (fun t => KO t.1 t.2.1 t.2.2) = Finset.univ) :
    (iprop((ℓe ↦{fullShare} fe) ∗ (ℓi ↦{fullShare} fi) ∗ ℓo ↦{fullShare} g) : sProp 𝕄)
      = iprop(rest ℓe fe ∗ bigSep Finset.univ fun c : Fin 2 => bigSep Finset.univ fun i : Fin 16 =>
          iprop((ℓe ↦[Ue]{qA c i} fe) ∗ (ℓe ↦[Ue]{qB c i} fe) ∗ (ℓi ↦[KI c i]{fullShare} fi)
            ∗ (ℓo ↦[KO c i 0]{fullShare} g) ∗ (ℓo ↦[KO c i 1]{fullShare} g) ∗ (ℓo ↦[KO c i 2]{fullShare} g) ∗ ℓo ↦[KO c i 3]{fullShare} g)) := by
  subst hUe
  have eI : (ℓi ↦{fullShare} fi : sProp 𝕄) = bigSep Finset.univ fun c : Fin 2 => bigSep Finset.univ fun i : Fin 16 => ℓi ↦[KI c i]{fullShare} fi := by
    rw [← cI, pointsTo_biUnion Finset.univ (ℓ := ℓi) (fun t : Fin 2 × Fin 16 => KI t.1 t.2) dI, bigSep_univ_prod]
  have eO : (ℓo ↦{fullShare} g : sProp 𝕄) = bigSep Finset.univ fun c : Fin 2 => bigSep Finset.univ fun i : Fin 16 =>
      iprop((ℓo ↦[KO c i 0]{fullShare} g) ∗ (ℓo ↦[KO c i 1]{fullShare} g) ∗ (ℓo ↦[KO c i 2]{fullShare} g) ∗ ℓo ↦[KO c i 3]{fullShare} g) := by
    rw [← cO, pointsTo_biUnion Finset.univ (ℓ := ℓo) (fun t : Fin 2 × Fin 16 × Fin 4 => KO t.1 t.2.1 t.2.2) dO, bigSep_univ_prod]
    refine bigSep_congr fun c _ => ?_
    rw [bigSep_univ_prod]
    exact bigSep_congr fun i _ => four _
  rw [table_eq, eI, eO]
  have eR : (bigSep Finset.univ fun c : Fin 2 => bigSep Finset.univ fun i : Fin 16 =>
          (iprop((ℓe ↦{qA c i} fe) ∗ (ℓe ↦{qB c i} fe) ∗ (ℓi ↦[KI c i]{fullShare} fi)
            ∗ (ℓo ↦[KO c i 0]{fullShare} g) ∗ (ℓo ↦[KO c i 1]{fullShare} g) ∗ (ℓo ↦[KO c i 2]{fullShare} g) ∗ ℓo ↦[KO c i 3]{fullShare} g) : sProp 𝕄))
      = iprop((bigSep Finset.univ fun c : Fin 2 => bigSep Finset.univ fun i : Fin 16 => iprop((ℓe ↦{qA c i} fe) ∗ ℓe ↦{qB c i} fe))
        ∗ (bigSep Finset.univ fun c : Fin 2 => bigSep Finset.univ fun i : Fin 16 => ℓi ↦[KI c i]{fullShare} fi)
        ∗ bigSep Finset.univ fun c : Fin 2 => bigSep Finset.univ fun i : Fin 16 =>
          iprop((ℓo ↦[KO c i 0]{fullShare} g) ∗ (ℓo ↦[KO c i 1]{fullShare} g) ∗ (ℓo ↦[KO c i 2]{fullShare} g) ∗ ℓo ↦[KO c i 3]{fullShare} g)) := by
    rw [← bigSep_sep', ← bigSep_sep']
    refine bigSep_congr fun c _ => ?_
    rw [← bigSep_sep', ← bigSep_sep']
    refine bigSep_congr fun i _ => ?_
    simp only [sep_assoc_eq]
  rw [eR]
  simp only [sep_assoc_eq]

end Cert.Proof.Deal

end
-- ==== Proof.Sc.lean ====
/- The two SparseCore calls as the launch sees them: what each takes and brings back, and that its tasks do so. -/
module

public import proofs.«01_k».proof.Proof.Deal

@[expose] public section

noncomputable section

namespace Cert.Proof.Sc

open Cert.KernelIdeal Cert.KernelIdeal.Gen Cert.Proof.Tile Cert.Proof.Deal

open Idealize.ShloMosaic
open Idealize.ShloMosaic.SparseCore (S V T)
open Idealize.ShloMosaic.SparseCore.Cfg (HIx Pay ownSems0 ownBufs ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state is the left component of the certificate's. -/
abbrev EH : Emb (URounds (GSem nD τ sig) ℕ) (MT nD τ sig (HIx 2) (Elt F) ℕ UU ℕ) := embL

/-! ## A task's own cells and buffers -/

theorem own_cells (t : Thread nD τ) (a b c e f : SemLoc sig) (hn : [a, b, c, e, f].Nodup) (hs : ∀ l ∈ [a, b, c, e, f], SemLoc.isScoped t.2.kind l = true) :
    (ownSems0 t : sProp 𝕄) = iprop((semVal (t, a) 0 ∗ semVal (t, b) 0 ∗ semVal (t, c) 0 ∗ semVal (t, e) 0 ∗ semVal (t, f) 0)
      ∗ bigSep (ownCells t \ {(t, a), (t, b), (t, c), (t, e), (t, f)}) fun g => semVal g 0) := by
  unfold SparseCore.Cfg.ownSems0
  rw [SparseCore.bigSep_sdiff_split' (t := {(t, a), (t, b), (t, c), (t, e), (t, f)})]
  · simp only [List.nodup_cons, List.mem_cons, List.not_mem_nil, or_false, not_or] at hn
    obtain ⟨⟨h1, h2, h3, h4⟩, ⟨h5, h6, h7⟩, ⟨h8, h9⟩, h10, -⟩ := hn
    rw [SparseCore.bigSep_insert' (by simp [h1, h2, h3, h4]), SparseCore.bigSep_insert' (by simp [h5, h6, h7]),
      SparseCore.bigSep_insert' (by simp [h8, h9]), SparseCore.bigSep_insert' (by simp [h10]), bigSep_singleton]
  · intro g hg
    simp only [Finset.mem_insert, Finset.mem_singleton] at hg
    rw [mem_ownCells]
    rcases hg with rfl | rfl | rfl | rfl | rfl <;> exact ⟨rfl, hs _ (by simp)⟩

theorem own_bufs (d : Dev nD) (c : Fin τ.nSC) (i : Fin τ.nSub) (a b e : Ref sig .scVector) (hn : [a, b, e].Nodup)
    (hs : ∀ r ∈ [a, b, e], ((Proc.scVector c i).devRef r).owner = .proc (.scVector c i)) :
    (ownBufs (V d c i) : sProp 𝕄) = iprop(((∃ f, (V d c i).loc a ↦{fullShare} f) ∗ (∃ f, (V d c i).loc b ↦{fullShare} f) ∗ ∃ f, (V d c i).loc e ↦{fullShare} f)
      ∗ bigSep (ownRefs (τ := τ) (sig := sig) (.scVector c i) \ {(Proc.scVector c i).devRef a, (Proc.scVector c i).devRef b, (Proc.scVector c i).devRef e})
          fun b => iprop(∃ f, ((d, b) : Loc nD τ sig) ↦{fullShare} f)) := by
  have hi : ∀ {x y : Ref sig .scVector}, x ≠ y → (Proc.scVector c i : Proc τ).devRef x ≠ (Proc.scVector c i).devRef y :=
    fun h e => h (Proc.devRef_injective _ e)
  unfold SparseCore.Cfg.ownBufs
  refine (SparseCore.bigSep_sdiff_split' (t := {(Proc.scVector c i).devRef a, (Proc.scVector c i).devRef b, (Proc.scVector c i).devRef e}) ?_).trans ?_
  · intro g hg
    simp only [Finset.mem_insert, Finset.mem_singleton] at hg
    rcases hg with rfl | rfl | rfl <;> exact mem_ownRefs_of_owner (p := Proc.scVector c i) (hs _ (by simp))
  · simp only [List.nodup_cons, List.mem_cons, List.not_mem_nil, or_false, not_or] at hn
    obtain ⟨⟨h1, h2⟩, h3, -⟩ := hn
    rw [SparseCore.bigSep_insert' (by simp [hi h1, hi h2]), SparseCore.bigSep_insert' (by simp [hi h3]), bigSep_singleton]

/-! ## What the handshakes carry -/

local notation "eM" => (Memref.whole Cert.KernelIdeal.main_v1_2_scv : Memref Cert.KernelIdeal.sig Kind.scVector Space.hbm Cert.KernelIdeal.S1024x128 EltTy.f32)
local notation "iM1" => (Memref.whole Cert.KernelIdeal.main_v1_0_scv : Memref Cert.KernelIdeal.sig Kind.scVector Space.hbm Cert.KernelIdeal.S16384 EltTy.i32)
local notation "oM1" => (Memref.whole Cert.KernelIdeal.main_v2_scv : Memref Cert.KernelIdeal.sig Kind.scVector Space.hbm Cert.KernelIdeal.S16384x128 EltTy.f32)
local notation "iM3" => (Memref.whole Cert.KernelIdeal.main_v3_0_scv : Memref Cert.KernelIdeal.sig Kind.scVector Space.hbm Cert.KernelIdeal.S16384 EltTy.i32)
local notation "oM3" => (Memref.whole Cert.KernelIdeal.main_v4_scv : Memref Cert.KernelIdeal.sig Kind.scVector Space.hbm Cert.KernelIdeal.S16384x128 EltTy.f32)

/-- A task of the first gather's part of the table, the list and the output, the output at `g`. -/
def task1 (d : Dev nD) (fe : S1024x128.Idx → Elt F .f32) (fi : S16384.Idx → Elt F .i32) (g : S16384x128.Idx → Elt F .f32) (c : Fin 2) (i : Fin 16) : sProp 𝕄 :=
  arrays (coords c i) eM iM1 oM1 d (qA c i) (qB c i) fe fi g
/-- A task of the second gather's. -/
def task3 (d : Dev nD) (fe : S1024x128.Idx → Elt F .f32) (fi : S16384.Idx → Elt F .i32) (g : S16384x128.Idx → Elt F .f32) (c : Fin 2) (i : Fin 16) : sProp 𝕄 :=
  arrays (coords c i) eM iM3 oM3 d (qA c i) (qB c i) fe fi g

instance storable1 (d : Dev nD) (fe : S1024x128.Idx → Elt F .f32) (fi : S16384.Idx → Elt F .i32) (g : S16384x128.Idx → Elt F .f32) (c : Fin 2) (i : Fin 16) :
    BI.Storable (upEmb : UEmb _ 𝕄) (task1 d fe fi g c i) := by
  unfold task1 arrays; infer_instance
instance storable3 (d : Dev nD) (fe : S1024x128.Idx → Elt F .f32) (fi : S16384.Idx → Elt F .i32) (g : S16384x128.Idx → Elt F .f32) (c : Fin 2) (i : Fin 16) :
    BI.Storable (upEmb : UEmb _ 𝕄) (task3 d fe fi g c i) := by
  unfold task3 arrays; infer_instance

/-- The contents the two calls are started at, by device: the table, the two lists, what the outputs held. -/
structure At (F : FTy → Type) where
  fe : Dev nD → S1024x128.Idx → Elt F .f32
  i1 : Dev nD → S16384.Idx → Elt F .i32
  i3 : Dev nD → S16384.Idx → Elt F .i32
  o1 : Dev nD → S16384x128.Idx → Elt F .f32
  o3 : Dev nD → S16384x128.Idx → Elt F .f32

variable (A : At F)

/-- Each call takes its tasks' parts of the table, the list and the output, and brings them back with the rows gathered. -/
def P : (K (F := F)).Pay (nD := nD) (Val := Elt F) (Name := ℕ) (U := UU) where
  st := fun q d c => match q with
    | 0 => bigSep Finset.univ fun i : Fin 16 => task1 d (A.fe d) (A.i1 d) (A.o1 d) c i
    | 1 => bigSep Finset.univ fun i : Fin 16 => task3 d (A.fe d) (A.i3 d) (A.o3 d) c i
  dn := fun q d c => match q with
    | 0 => bigSep Finset.univ fun i : Fin 16 => task1 d (A.fe d) (A.i1 d) (Rows.gOut (A.fe d) (A.i1 d)) c i
    | 1 => bigSep Finset.univ fun i : Fin 16 => task3 d (A.fe d) (A.i3 d) (Rows.gOut (A.fe d) (A.i3 d)) c i
  go := fun q d c i => match q with
    | 0 => task1 d (A.fe d) (A.i1 d) (A.o1 d) c i
    | 1 => task3 d (A.fe d) (A.i3 d) (A.o3 d) c i
  td := fun q d c i => match q with
    | 0 => task1 d (A.fe d) (A.i1 d) (Rows.gOut (A.fe d) (A.i1 d)) c i
    | 1 => task3 d (A.fe d) (A.i3 d) (Rows.gOut (A.fe d) (A.i3 d)) c i
  x := fun _ _ => iprop(emp)

instance P_storable : (P A).IsStorable where
  st q d c := match q with
    | 0 => (inferInstance : BI.Storable (upEmb : UEmb _ 𝕄) (bigSep Finset.univ fun i : Fin 16 => task1 d (A.fe d) (A.i1 d) (A.o1 d) c i))
    | 1 => (inferInstance : BI.Storable (upEmb : UEmb _ 𝕄) (bigSep Finset.univ fun i : Fin 16 => task3 d (A.fe d) (A.i3 d) (A.o3 d) c i))
  dn q d c := match q with
    | 0 => (inferInstance : BI.Storable (upEmb : UEmb _ 𝕄) (bigSep Finset.univ fun i : Fin 16 => task1 d (A.fe d) (A.i1 d) (Rows.gOut (A.fe d) (A.i1 d)) c i))
    | 1 => (inferInstance : BI.Storable (upEmb : UEmb _ 𝕄) (bigSep Finset.univ fun i : Fin 16 => task3 d (A.fe d) (A.i3 d) (Rows.gOut (A.fe d) (A.i3 d)) c i))
  go q d c i := match q with
    | 0 => storable1 d _ _ _ c i
    | 1 => storable3 d _ _ _ c i
  td q d c i := match q with
    | 0 => storable1 d _ _ _ c i
    | 1 => storable3 d _ _ _ c i

theorem split_self {n : ℕ} (X Y : sProp 𝕄) (G T : Fin n → sProp 𝕄) (hX : X = bigSep Finset.univ G) (hY : Y = bigSep Finset.univ T) :
    X ⊢ |={Set.univ}=> iprop((bigSep Finset.univ G) ∗ ((bigSep Finset.univ T) -∗ Y)) := by
  subst hX hY
  iintro H; imodintro
  isplitl [H]; · iexact H
  iintro H; iexact H

theorem vecSplit (q : Fin 2) : (K (F := F)).VecSplit' (P A) q := by
  intro d c
  match q with
  | 0 => exact split_self (n := 16) _ _ (fun i => task1 d (A.fe d) (A.i1 d) (A.o1 d) c i) (fun i => task1 d (A.fe d) (A.i1 d) (Rows.gOut (A.fe d) (A.i1 d)) c i) rfl rfl
  | 1 => exact split_self (n := 16) _ _ (fun i => task3 d (A.fe d) (A.i3 d) (A.o3 d) c i) (fun i => task3 d (A.fe d) (A.i3 d) (Rows.gOut (A.fe d) (A.i3 d)) c i) rfl rfl

/-! ## The whole arrays, around a call -/

theorem set_i1 (t : Fin 2 × Fin 16) : (iSl (coords t.1 t.2) iM1).view.set = (rectI t).set := by
  show ((View.whole (main_v1_0_scv : Ref sig .scVector)).slice (rectI t)).set = _
  rw [View.set_slice]; exact Finset.map_refl
theorem set_i3 (t : Fin 2 × Fin 16) : (iSl (coords t.1 t.2) iM3).view.set = (rectI t).set := by
  show ((View.whole (main_v3_0_scv : Ref sig .scVector)).slice (rectI t)).set = _
  rw [View.set_slice]; exact Finset.map_refl
theorem set_o1 (t : Fin 2 × Fin 16 × Fin 4) : (oSl (coords t.1 t.2.1) oM1 t.2.2).view.set = (rectO t).set := by
  show ((View.whole (main_v2_scv : Ref sig .scVector)).slice (rectO t)).set = _
  rw [View.set_slice]; exact Finset.map_refl
theorem set_o3 (t : Fin 2 × Fin 16 × Fin 4) : (oSl (coords t.1 t.2.1) oM3 t.2.2).view.set = (rectO t).set := by
  show ((View.whole (main_v4_scv : Ref sig .scVector)).slice (rectO t)).set = _
  rw [View.set_slice]; exact Finset.map_refl

abbrev eLoc (d : Dev nD) : Loc nD τ sig := (SparseCore.T d).loc main_v1_2

theorem call1 (d : Dev nD) (fe : S1024x128.Idx → Elt F .f32) (fi : S16384.Idx → Elt F .i32) (g : S16384x128.Idx → Elt F .f32) :
    (iprop((eLoc d ↦{fullShare} fe) ∗ ((SparseCore.T d).loc main_v1_0 ↦{fullShare} fi) ∗ (SparseCore.T d).loc main_v2 ↦{fullShare} g) : sProp 𝕄)
      = iprop(rest (eLoc d) fe ∗ bigSep Finset.univ fun c : Fin 2 => bigSep Finset.univ fun i : Fin 16 => task1 d fe fi g c i) :=
  deal (ℓe := eLoc d) (ℓi := (SparseCore.T d).loc main_v1_0) (ℓo := (SparseCore.T d).loc main_v2) fe fi g (eM).view.set (View.set_whole _)
    (fun c i => (iSl (coords c i) iM1).view.set) (fun c i r => (oSl (coords c i) oM1 r).view.set)
    (fun t ht t' ht' h => by
      have := rectI_disjoint t ht t' ht' h
      rw [← set_i1, ← set_i1] at this; exact this)
    ((Finset.biUnion_congr rfl fun t _ => set_i1 t).trans rectI_cover)
    (fun t ht t' ht' h => by
      have := rectO_disjoint t ht t' ht' h
      rw [← set_o1, ← set_o1] at this; exact this)
    ((Finset.biUnion_congr rfl fun t _ => set_o1 t).trans rectO_cover)

theorem call3 (d : Dev nD) (fe : S1024x128.Idx → Elt F .f32) (fi : S16384.Idx → Elt F .i32) (g : S16384x128.Idx → Elt F .f32) :
    (iprop((eLoc d ↦{fullShare} fe) ∗ ((SparseCore.T d).loc main_v3_0 ↦{fullShare} fi) ∗ (SparseCore.T d).loc main_v4 ↦{fullShare} g) : sProp 𝕄)
      = iprop(rest (eLoc d) fe ∗ bigSep Finset.univ fun c : Fin 2 => bigSep Finset.univ fun i : Fin 16 => task3 d fe fi g c i) :=
  deal (ℓe := eLoc d) (ℓi := (SparseCore.T d).loc main_v3_0) (ℓo := (SparseCore.T d).loc main_v4) fe fi g (eM).view.set (View.set_whole _)
    (fun c i => (iSl (coords c i) iM3).view.set) (fun c i r => (oSl (coords c i) oM3 r).view.set)
    (fun t ht t' ht' h => by
      have := rectI_disjoint t ht t' ht' h
      rw [← set_i3, ← set_i3] at this; exact this)
    ((Finset.biUnion_congr rfl fun t _ => set_i3 t).trans rectI_cover)
    (fun t ht t' ht' h => by
      have := rectO_disjoint t ht t' ht' h
      rw [← set_o3, ← set_o3] at this; exact this)
    ((Finset.biUnion_congr rfl fun t _ => set_o3 t).trans rectO_cover)

/-! ## A task's obligation -/

variable [FloatOps F]

theorem defs₀_one (c : Fin τ.nSC) (s : Fin τ.nSub) :
    defs₀ (F := F) (.scVector c s) 1 ()
      = SparseCore.onTile hcore1 hsub1 (fun c s => cc1__sc_gather (coords c s) eM (Memref.isWhole_whole _) iM1 (Memref.isWhole_whole _) oM1 (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scratch5 cc1_scratch6 cc1_scoped0) ⟨⟩ c s := rfl
theorem defs₀_three (c : Fin τ.nSC) (s : Fin τ.nSub) :
    defs₀ (F := F) (.scVector c s) 3 ()
      = SparseCore.onTile hcore3 hsub3 (fun c s => cc3__sc_gather (coords c s) eM (Memref.isWhole_whole _) iM3 (Memref.isWhole_whole _) oM3 (Memref.isWhole_whole _)
          (Memref.whole cc3_scratch0) (Memref.isWhole_whole _) (Memref.whole cc3_scratch1) (Memref.isWhole_whole _) (Memref.whole cc3_scratch2) (Memref.isWhole_whole _)
          cc3_scratch3 cc3_scratch4 cc3_scratch5 cc3_scratch6 cc3_scoped0) ⟨⟩ c s := rfl

/-- A task whose body is proved from its own buffers and semaphores is proved from all its processor's. -/
theorem of_body {Arr Arr' Scr Sem R R' : sProp 𝕄} {t : Thread nD τ} {p : Prog (TpuEff nD τ sig (Elt F) Λ₀ t.2) PUnit} {q : Fin 2}
    (hb : (scopedBufs t : sProp 𝕄) = iprop(Scr ∗ R)) (hs : (scopedSems0 t : sProp 𝕄) = iprop(Sem ∗ R'))
    (O : CellTallies nD τ sig (HIx 2)) (W : Waits sig (HIx 2)) (hO : ∀ g, O g none = 0)
    (h : iprop(Transfers.MayWaits t (default : HIx 2) O ∗ Arr ∗ Scr ∗ Sem ∗ owes t O W)
      ⊢ (wp frame (wpE (defs₀ (F := F)) 𝒱₀ t none) Set.univ p fun _ => iprop(Arr' ∗ Scr ∗ Sem ∗ ∃ W', ⌜∀ p ∈ W', p ∈ W ∨ p.2 = none⌝ ∗ owes t O W') : sProp 𝕄)) :
    iprop(levAts (K (F := F)).L (K (F := F)).lev ∗ emp ∗ Arr ∗ scopedBufs t ∗ scopedSems0 t ∗ owes t O W)
      ⊢ (wp frame (wpE (defs₀ (F := F)) 𝒱₀ t none) Set.univ p fun _ => iprop(Arr' ∗ scopedBufs t ∗ scopedSems0 t
          ∗ ∃ W', ⌜∀ p ∈ W', p ∈ W ∨ p.2 = none ∨ p.2 = some q⌝ ∗ owes t O W') : sProp 𝕄) := by
  rw [hb, hs]
  refine BI.Entails.trans ?_ (wp_wand_r frame _ _ (Q := fun _ => iprop(Arr' ∗ Scr ∗ Sem ∗ ∃ W', ⌜∀ p ∈ W', p ∈ W ∨ p.2 = none⌝ ∗ owes t O W')))
  show (_ : sProp 𝕄) ⊢ (_ : sProp 𝕄)
  iintro ⟨#Hlv, -, Ha, ⟨Hb, Hbr⟩, ⟨Hs, Hsr⟩, HO⟩
  ihave Hmw := (show levAts (K (F := F)).L (K (F := F)).lev ⊢ Transfers.MayWaits t (default : HIx 2) O from
    (K (F := F)).mayWaits_none (thr := t) hO) $$ Hlv
  isplitl [Hmw Ha Hb Hs HO]
  · iapply h
    isplitl [Hmw]; · iexact Hmw
    isplitl [Ha]; · iexact Ha
    isplitl [Hb]; · iexact Hb
    isplitl [Hs] <;> iassumption
  iintro %a ⟨Ha, Hb, Hs, %W', %hW, HO⟩
  isplitl [Ha]; · iexact Ha
  isplitl [Hb Hbr]; · isplitl [Hb] <;> iassumption
  isplitl [Hs Hsr]; · isplitl [Hs] <;> iassumption
  iexists W'; isplitr
  · ipureintro; exact fun p hp => (hW p hp).imp_right Or.inl
  · iexact HO

theorem bufs_of {d : Dev nD} {c : Fin τ.nSC} {i : Fin τ.nSub} {X : sProp 𝕄} (h : (ownBufs (V d c i) : sProp 𝕄) = X) : (scopedBufs (V d c i) : sProp 𝕄) = X :=
  ((K (F := F)).scopedBufs_V facts d c i).trans h
theorem sems_of {d : Dev nD} {c : Fin τ.nSC} {i : Fin τ.nSub} {X : sProp 𝕄} (h : (ownSems0 (V d c i) : sProp 𝕄) = X) : (scopedSems0 (V d c i) : sProp 𝕄) = X :=
  (SparseCore.Cfg.scopedSems0_V (Val := Elt F) d c i).trans h

set_option maxRecDepth 16384 in
theorem obl1 (hin : ∀ d j, BitVec.toNat (A.i1 d j) < 1024) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_one]; simp only [SparseCore.onTile, hci, and_self, ↓reduceDIte]
  exact of_body (t := thr d (coords c i)) (bufs_of (own_bufs d _ _ cc1_scratch0 cc1_scratch1 cc1_scratch2 (by decide) (fun r hr => by
      simp only [List.mem_cons, List.not_mem_nil, _root_.or_false] at hr; rcases hr with rfl | rfl | rfl <;> rfl)))
    (sems_of (own_cells _ (.dma cc1_scratch3.sem) (.dma cc1_scratch4.sem) (.dma cc1_scratch5.sem) (.dma cc1_scratch6.sem) (.dma cc1_scoped0.sem) (by decide)
      (show ∀ l ∈ _, SemLoc.isScoped .scVector l = true by decide))) O W hO (body1 d (coords c i) _ _ _ _ _ _ _ _ _ _ (hin d) O W)

set_option maxRecDepth 16384 in
theorem obl3 (hin : ∀ d j, BitVec.toNat (A.i3 d j) < 1024) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_three]; simp only [SparseCore.onTile, hci, and_self, ↓reduceDIte]
  exact of_body (t := thr d (coords c i)) (bufs_of (own_bufs d _ _ cc3_scratch0 cc3_scratch1 cc3_scratch2 (by decide) (fun r hr => by
      simp only [List.mem_cons, List.not_mem_nil, _root_.or_false] at hr; rcases hr with rfl | rfl | rfl <;> rfl)))
    (sems_of (own_cells _ (.dma cc3_scratch3.sem) (.dma cc3_scratch4.sem) (.dma cc3_scratch5.sem) (.dma cc3_scratch6.sem) (.dma cc3_scoped0.sem) (by decide)
      (show ∀ l ∈ _, SemLoc.isScoped .scVector l = true by decide))) O W hO (body3 d (coords c i) _ _ _ _ _ _ _ _ _ _ (hin d) O W)

end Cert.Proof.Sc

end
-- ==== Proof.Inv.lean ====
/- What a TensorCore call's kernel keeps from point to point beside its blocks: the core's own buffers that are no
   block, and the generator's register. None of the four kernels touches them. -/
module

public import proofs.«01_k».proof.Proof.Tile
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

noncomputable section

namespace Cert.Proof.Inv

open Cert.KernelIdeal Cert.Proof.Tile
open Idealize.ShloMosaic
open Idealize.ShloMosaic.SparseCore.Cfg (HIx)
open Idealize.SL Idealize.SL.RA Idealize.SL.BI
open scoped Idealize.SL.BI
open Idealize.SL.BI.BIBase

variable {F : FTy → Type}

/-- The scoped buffers that are no block, at some contents, and the generator's register at some state. -/
def inv {gr W : ℕ} (win : Fin W → Pipeline.WinSpec sig gr) (c : Dev nD) : sProp (MT nD τ sig (HIx 2) (Elt F) ℕ UU ℕ) :=
  iprop(Pipeline.scopedRest win c ∗ ∃ r, prngReg c r)

/-- After a store of the whole of a view, the view reads what was stored. -/
theorem read_last {κ : Kind} {sp : Space} {s : Shape} {e : EltTy} (v : View sig κ sp s e) (f : v.ty.Contents (Elt F)) {off : Fin s.rank → ℕ}
    (h : off = fun _ => 0) (inb : ∀ a, off a + s.size a ≤ s.size a) (w : s.Idx → Elt F e) (l : List (View.Piece (Elt F) s e)) :
    v.read (Elt F) (v.writes (Elt F) f (⟨Rect.unit off s.size inb, w⟩ :: l)) = w := by
  subst h; exact Rows.read_writes_whole v f w l

end Cert.Proof.Inv
-- ==== Proof.Reg.lean ====
/- One TensorCore call as a step of the host's thread. The thread holds every unscoped buffer; a call takes its arrays out of
   them, runs its pipeline, and puts them back at what the pipeline leaves. All the while the thread owes the starts of the
   SparseCore calls still to come, and what it has waited for stays below them. -/
module

public import proofs.«01_k».proof.Proof.Sc
public import proofs.«01_k».proof.Proof.Inv
public import Idealize.ShloMosaic.Lib.Pipeline.RegionArrays
public import Idealize.ShloMosaic.Lib.Pipeline.RegionsLoop
public import Idealize.ShloMosaic.Lib.Pipeline.FrameSuffix

@[expose] public section

set_option maxRecDepth 16384

noncomputable section

namespace Cert.Proof.Reg

open Cert.KernelIdeal Cert.KernelIdeal.Gen Cert.Proof.Tile Cert.Proof.Sc Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

abbrev adm : (p : Fin 4) → ((pcfgs (F := F)) p).Adm := fun p => (cfgs p).toPCfg_adm
abbrev pin (p : Fin 4) : Pipeline.Cfg sig Λ₀ := Pipeline.pin (pcfgs (F := F)) adm p

/-- The pipelines' ghost state is the middle component of the certificate's. -/
def EP : Emb (URounds (GSem nD τ sig) Unit) (MT nD τ sig (HIx 2) (Elt F) ℕ UU ℕ) :=
  (Emb.inl : Emb (URounds (GSem nD τ sig) Unit) (URounds (GSem nD τ sig) Unit × Counters)).trans embR

instance EP_landsIn : (EP (F := F)).LandsIn (upEmb : UEmb _ (MT nD τ sig (HIx 2) (Elt F) ℕ UU ℕ)) := by
  unfold EP; infer_instance

/-- What the thread may have waited for before SparseCore call `n`. -/
def seen (n : ℕ) (c : Dev nD) : Set (SemLoc sig × HIx 2) := {x | (K (F := F)).lev (SparseCore.T c, x.1) x.2 ≤ 8 * n}

/-- What the thread owes before SparseCore call `n`, its waits within what it may have waited for. -/
def debt (n : ℕ) (c : Dev nD) : sProp 𝕄 :=
  iprop(∃ W, ⌜(K (F := F)).WBelow (SparseCore.T c) W (8 * n)⌝ ∗ owes (SparseCore.T c) ((K (F := F)).Otc c n) W)

/-- What the thread holds between two operations. -/
def state (n : ℕ) (V : Dev nD → Valuation τ sig (Elt F)) (c : Dev nD) : sProp 𝕄 :=
  iprop(StableHlo.held (c : Thread nD τ) (Pipeline.ucRefs τ sig) (V c) ∗ (∃ r, prngReg c r) ∗ debt n c)

theorem otc_none (c : Dev nD) (n : ℕ) (g : GSem nD τ sig) : (K (F := F)).Otc (N := 2) c n g none = 0 := by
  by_contra h
  have := SparseCore.Cfg.lev_of_Otc_pos (K := K (F := F)) (Nat.pos_of_ne_zero h)
  rw [SparseCore.Cfg.lev_none] at this; omega

variable (pd : (p : Fin 4) → (c : Dev nD) → Dat τ (Elt F) (HIx 2) ℕ UU ℕ (Pipeline.pin (pcfgs (F := F)) adm p) c)

/-- Pipeline `p`'s data are of the kind this module runs, entered at the contents `V` before SparseCore call `n`. -/
structure Fits (p : Fin 4) (n : ℕ) (V : Dev nD → Valuation τ sig (Elt F)) : Prop where
  entry : ∀ c w, (pd p c).A w = V c (Proc.devRef .tc (Pipeline.arrRef (Pipeline.pin (pcfgs (F := F)) adm p).spec w))
  owed : ∀ c t, (pd p c).owed t = (K (F := F)).Otc c n
  recorded : ∀ c t, (pd p c).recorded t = seen (F := F) n c
  inv : ∀ c t, (pd p c).Φ t = Inv.inv (Pipeline.pin (pcfgs (F := F)) adm p).spec c
  share : ∀ c w, (pd p c).share w = fullShare
  body : ∀ c, Pipeline.BodyObligationLoose (pd p c) (defs₀ (F := F)) 𝒱₀ none Set.univ

/-- The contents pipeline `p` leaves: its arrays at what its write-backs make of them, the rest as it was. -/
def leaves (p : Fin 4) (V : Dev nD → Valuation τ sig (Elt F)) (c : Dev nD) : Valuation τ sig (Elt F) :=
  Pipeline.withArrays (Pipeline.pin (pcfgs (F := F)) adm p).spec c (V c) fun w => (pd p c).arrAt w (Pipeline.pin (pcfgs (F := F)) adm p).N

/-- The layout facts of pipeline `p`, in the form the step below reads them. -/
structure Laid (p : Fin 4) : Prop where
  win : Pipeline.WinFacts (Pipeline.pin (pcfgs (F := F)) adm p).spec
  block_pos : ∀ w : Fin (Pipeline.pin (pcfgs (F := F)) adm p).W, 0 < ((Pipeline.pin (pcfgs (F := F)) adm p).spec w).block.numel
  stage_whole : ∀ (w : Fin (Pipeline.pin (pcfgs (F := F)) adm p).W) (s : Fin ((Pipeline.pin (pcfgs (F := F)) adm p).spec w).nbuf),
    (((Pipeline.pin (pcfgs (F := F)) adm p).spec w).stage s).IsWhole
  arr_whole : ∀ w : Fin (Pipeline.pin (pcfgs (F := F)) adm p).W, ((Pipeline.pin (pcfgs (F := F)) adm p).spec w).arr.IsWhole

theorem laid : ∀ p : Fin 4, Laid (F := F) p
  | ⟨0, _⟩ => ⟨launch0.win, launch0.block_pos, launch0.stage_whole, launch0.arr_whole⟩
  | ⟨1, _⟩ => ⟨launch2.win, launch2.block_pos, launch2.stage_whole, launch2.arr_whole⟩
  | ⟨2, _⟩ => ⟨launch4.win, launch4.block_pos, launch4.stage_whole, launch4.arr_whole⟩
  | ⟨3, _⟩ => ⟨launch5.win, launch5.block_pos, launch5.stage_whole, launch5.arr_whole⟩

theorem leaves_arr (p : Fin 4) (V : Dev nD → Valuation τ sig (Elt F)) (c : Dev nD) (w : Fin (Pipeline.pin (pcfgs (F := F)) adm p).W) :
    leaves pd p V c (Proc.devRef .tc (Pipeline.arrRef (Pipeline.pin (pcfgs (F := F)) adm p).spec w))
      = (pd p c).arrAt w (Pipeline.pin (pcfgs (F := F)) adm p).N := by
  unfold leaves; exact Pipeline.withArrays_arr _ (laid (F := F) p).win.arr_inj c _ _ w

theorem leaves_of_ne (p : Fin 4) (V : Dev nD → Valuation τ sig (Elt F)) (c : Dev nD) (b : Ref sig .tc)
    (hb : ∀ w, Pipeline.arrRef (Pipeline.pin (pcfgs (F := F)) adm p).spec w ≠ b) :
    leaves pd p V c (Proc.devRef .tc b) = V c (Proc.devRef .tc b) := by
  unfold leaves; exact Pipeline.withArrays_of_ne _ c _ _ b hb

set_option backward.isDefEq.respectTransparency.types false in
/-- The call as a segment of the thread. -/
def seg (p : Fin 4) (n : ℕ) (V : Dev nD → Valuation τ sig (Elt F)) (h : Fits pd p n V) :
    Pipeline.RegionSeg (pcfgs (F := F)) adm pd none (defs₀ (F := F)) 𝒱₀ (K (F := F)).L (K (F := F)).lev p where
  win := (laid (F := F) p).win.to₀
  block_pos := (laid (F := F) p).block_pos
  stage_whole := (laid (F := F) p).stage_whole
  K := PEmpty
  osem k := k.elim
  ho := Pipeline.OwnSemFacts.none _
  hbody := h.body
  hwaits c := Pipeline.cellsWaits_intro _ pd none p c fun w s t => by
    rw [h.owed]
    exact SparseCore.Cfg.mayWait_none (K := K (F := F)) _ (fun g => otc_none c n g)
  pre := state n V
  post := state n (leaves pd p V)
  X c := iprop(∃ r, prngReg c r)
  Y c := iprop(∃ r, prngReg c r)
  Z c := Pipeline.unscopedRest (Pipeline.pin (pcfgs (F := F)) adm p).spec c (fun b => V c (Proc.devRef .tc b))
  hentry c := by
    rw [Pipeline.ownSems0_none, Pipeline.prefHeld_of_none _ rfl]
    have hs := Pipeline.arrays_of_unscopedBufs (p := p) (pcfgs (F := F)) adm pd (laid (F := F) p).win (laid (F := F) p).arr_whole c (h.share c)
      (fun b => V c (Proc.devRef .tc b)) (h.entry c)
    rw [Pipeline.unscopedBufs_held] at hs
    unfold state debt
    iintro ⟨⟨Hub, Hp, ⟨%W, %hW, HO⟩⟩, -, -⟩
    ihave H := hs $$ Hub
    icases H with ⟨Ha, Hrest⟩
    imodintro
    isplitl [Ha]; · iexact Ha
    isplitr; · iempintro
    isplitl [HO]
    · unfold Pipeline.Dat.owesAt Pipeline.owesWithin Pipeline.Dat.bound
      rw [h.owed, h.recorded]
      iexists W; isplitr
      · ipureintro; exact fun x hx => Or.inl (hW x hx)
      iexact HO
    isplitl [Hp]; · iexact Hp
    iexact Hrest
  hin c := by
    rw [h.inv]; unfold Inv.inv
    iintro ⟨Hp, -, Hr⟩
    isplitl [Hr]; · iexact Hr
    iexact Hp
  hout c := by
    rw [Pipeline.ownSems0_none, h.inv]; unfold Inv.inv
    iintro ⟨Hr, Hp⟩
    isplitl [Hp]; · iexact Hp
    isplitr; · iempintro
    iexact Hr
  hexit c := by
    have hj := Pipeline.unscopedBufs_of_arrays (p := p) (pcfgs (F := F)) adm (laid (F := F) p).win (laid (F := F) p).arr_whole c pd (h.share c)
      (fun b => V c (Proc.devRef .tc b)) (fun b => leaves pd p V c (Proc.devRef .tc b))
      ((pd p c).arrAt · (Pipeline.pin (pcfgs (F := F)) adm p).N) (fun w => (leaves_arr pd p V c w).symm)
      (fun b hb => leaves_of_ne pd p V c b fun w e => hb (Finset.mem_image.mpr ⟨w, Finset.mem_univ _, e⟩))
    rw [Pipeline.unscopedBufs_held] at hj
    unfold state debt
    iintro ⟨Ha, HO, HY, Hrest⟩
    imodintro
    isplitl [Ha Hrest]
    · iapply hj; isplitl [Ha] <;> iassumption
    isplitl [HY]; · iexact HY
    unfold Pipeline.Dat.owesAt Pipeline.owesWithin Pipeline.Dat.bound
    rw [h.owed, h.recorded]
    icases HO with ⟨%W, %hW, HO⟩
    iexists W; isplitr
    · ipureintro
      intro x hx
      rcases hW hx with h' | ⟨w, s, e⟩
      · exact h'
      · rw [e]; exact Nat.zero_le _
    iexact HO

/-- The call, as @main makes it, from the thread's state to the thread's state. -/
theorem step (p : Fin 4) (n : ℕ) (V : Dev nD → Valuation τ sig (Elt F)) (h : Fits pd p n V) (c : Dev nD) (Q : PUnit → sProp 𝕄) :
    iprop((iprop(boundary (c.tc : Thread nD τ) ∗ state n (leaves pd p V) c) -∗ Q ⟨⟩)
        ∗ boundary (c.tc : Thread nD τ) ∗ state n V c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ
          (Prog.lift (.customCall (SparseCore.inner (Pipeline.entry p)) ())) Q := by
  have hrun := Pipeline.RegionSeg.wp (pcfgs (F := F)) adm pd none cellOf_inj EP (defs₀ (F := F)) 𝒱₀ (K (F := F)).L (K (F := F)).lev (seg pd p n V h) c none
    (fun u hu => by cases hu) (fun _ => .ret ⟨⟩) Q
  have hlift := (K (F := F)).wp_liftProg (D (F := F)) 𝒱 (SparseCore.T c) Set.univ none (.op (.customCall (Pipeline.entry p) ()) fun _ => .ret ⟨⟩) Q
  refine BI.Entails.trans ?_ (hrun.trans hlift)
  show (_ : sProp 𝕄) ⊢ (_ : sProp 𝕄)
  iintro ⟨Hk, H⟩
  isplitl [Hk]
  · iintro Hb
    rw [wp_ret]; imodintro
    iapply Hk; iexact Hb
  iexact H

end Cert.Proof.Reg
-- ==== Proof.St.lean ====
/- The two straight-through calls: each point reads a block of the input and a block of gathered rows and writes
   the block `z + (q - z)`. Stated at the contents `V` the call is entered with and at the debt `O` it is entered at. -/
module

public import proofs.«01_k».proof.Proof.Inv

@[expose] public section

set_option maxRecDepth 16384

noncomputable section

namespace Cert.Proof.St

open Cert.KernelIdeal Cert.KernelIdeal.Gen Cert.Proof.Tile Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

variable (V : (c : Dev nD) → (b : Ref sig .tc) → Buf (Elt F) ((c : Thread nD τ).loc b))
  (O : Dev nD → CellTallies nD τ sig (HIx 2)) (B : Set (SemLoc sig × HIx 2))

/-! ## The first half -/

/-- Window `w`'s block at point `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' first 64 columns. -/
abbrev cols : Rect S4096x128 := Rect.unit (s := S4096x128) ![0, 0] S4096x64.size inb_S4096x128_S4096x64_0_0

/-- What one point leaves: the input block moved by its distance to the gathered rows. -/
def out4 (z : Vec F S4096x64 .f32) (q : Vec F S4096x128 .f32) : Vec F S4096x64 .f32 := k4_pay1 z (View.ld q cols)

theorem body4 (c : Dev nD) (E : Set ℕ) (i : grid4.Coords) (a : Memref sig .tc .vmem S4096x64 .f32) (ha : a.IsWhole)
    (b : Memref sig .tc .vmem S4096x128 .f32) (hb : b.IsWhole) (o : Memref sig .tc .vmem S4096x64 .f32) (ho : o.IsWhole)
    (z : Vec F S4096x64 .f32) (q : Vec F S4096x128 .f32) (k : PUnit → sProp 𝕄) :
    iprop(owns (c : Thread nD τ) a fullShare z ∗ owns (c : Thread nD τ) b fullShare q ∗ (∃ d, owns (c : Thread nD τ) o fullShare d)
        ∗ (iprop(owns (c : Thread nD τ) a fullShare z ∗ owns (c : Thread nD τ) b fullShare q ∗ owns (c : Thread nD τ) o fullShare (out4 z q)) -∗ k ⟨⟩))
      ⊢ wp frame (wpE (defs₀ (F := F)) 𝒱₀ c none) E (cc4__st_first i a ha b hb o ho) k := by
  rw [cc4__st_first_eq_skeleton]; unfold cc4__st_first_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => View.cover_of_tiled [⟨Rect.unit (s := S4096x64) ![0, 0] S4096x64.size inb_S4096x64_S4096x64_0_0, _⟩] S4096x64.size (by rfl) y),
    View.canon_unit_zero (by decide)]
  unfold out4
  congr 1
  exact View.ld_unit_zero (S := S4096x64) (by decide) inb_S4096x64_S4096x64_0_0 _

/-- The call's proof data. -/
def dat4 (c : Dev nD) : Dat τ (Elt F) (HIx 2) ℕ UU ℕ cfg4 c where
  A w := V c (Pipeline.arrRef spec4 w)
  after w t := match w with
    | ⟨0, _⟩ => blk4 V c 0 t
    | ⟨1, _⟩ => blk4 V c 1 t
    | ⟨2, _⟩ => out4 (blk4 V c 0 t) (blk4 V c 1 t)
  Φ _ := Inv.inv spec4 c
  q _ := fullShare
  owed _ := O c
  recorded _ := B

theorem dat4_A (c : Dev nD) (w : Fin cfg4.W) : (dat4 V O B c).A w = V c (Pipeline.arrRef spec4 w) := by dsimp only [dat4]
theorem dat4_0 (c : Dev nD) (t : Fin cfg4.N) : (dat4 V O B c).after 0 t = blk4 V c 0 t := by dsimp only [dat4]
theorem dat4_1 (c : Dev nD) (t : Fin cfg4.N) : (dat4 V O B c).after 1 t = blk4 V c 1 t := by dsimp only [dat4]
theorem dat4_2 (c : Dev nD) (t : Fin cfg4.N) : (dat4 V O B c).after 2 t = out4 (blk4 V c 0 t) (blk4 V c 1 t) := by dsimp only [dat4]

/-- An input's buffer holds its block at every point. -/
theorem found4_0 (c : Dev nD) (t : Fin cfg4.N) (d) : (dat4 V O B c).before 0 t d = blk4 V c 0 t :=
  ((dat4 V O B c).before_in_eq_fetched 0 rfl (fun _ => rfl) (fun _ _ _ => rfl) (fun t => by rw [dat4_0]; unfold Dat.blockOf blk4; rw [dat4_A]) t d).trans
    (by unfold Dat.fetched Dat.blockOf blk4; rw [dat4_A]; rfl)
theorem found4_1 (c : Dev nD) (t : Fin cfg4.N) (d) : (dat4 V O B c).before 1 t d = blk4 V c 1 t :=
  ((dat4 V O B c).before_in_eq_fetched 1 rfl (fun _ => rfl) (fun _ _ _ => rfl) (fun t => by rw [dat4_1]; unfold Dat.blockOf blk4; rw [dat4_A]) t d).trans
    (by unfold Dat.fetched Dat.blockOf blk4; rw [dat4_A]; rfl)

theorem point4 (c : Dev nD) (t : Fin cfg4.N) :
    (iprop((dat4 V O B c).Φ t.castSucc ∗ (dat4 V O B c).owesAt none t.castSucc
      ∗ (∃ d, owns (c : Thread nD τ) (st4_0 t) fullShare ((dat4 V O B c).before 0 t d))
      ∗ (∃ d, owns (c : Thread nD τ) (st4_1 t) fullShare ((dat4 V O B c).before 1 t d))
      ∗ (∃ d, owns (c : Thread nD τ) (st4_2 t) fullShare ((dat4 V O B c).before 2 t d))) : sProp 𝕄)
    ⊢ wp frame (wpE (defs₀ (F := F)) 𝒱₀ c none) Set.univ (bodyAt4 t) (fun _ =>
      iprop((dat4 V O B c).Φ t.succ ∗ (dat4 V O B c).owesAt none t.succ
        ∗ owns (c : Thread nD τ) (st4_0 t) fullShare ((dat4 V O B c).after 0 t)
        ∗ owns (c : Thread nD τ) (st4_1 t) fullShare ((dat4 V O B c).after 1 t)
        ∗ owns (c : Thread nD τ) (st4_2 t) fullShare ((dat4 V O B c).after 2 t))) := by
  unfold bodyAt4
  simp only [found4_0, found4_1]
  rw [show (dat4 V O B c).Φ t.succ = (dat4 V O B c).Φ t.castSucc from rfl,
    show (dat4 V O B c).owesAt none t.succ = (dat4 V O B c).owesAt none t.castSucc from rfl, dat4_0, dat4_1, dat4_2]
  iintro ⟨HΦ, Ho, ⟨%d0, H0⟩, ⟨%d1, H1⟩, ⟨%d2, H2⟩⟩
  iapply (body4 c Set.univ (grid4.coords t) _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row4 (t : Fin cfg4.N) : defs₀ (F := F) .tc cfg4.body (cfg4.bodyArgs t (cfg4.slots t)) = bodyAt4 t := by
  unfold defs₀; rfl

theorem obl4 (c : Dev nD) : BodyObligation (dat4 (F := F) V O B c) (defs₀ (F := F)) 𝒱₀ none Set.univ := fun t => by
  rw [bigSep_W4, bigSep_W4, row4]
  exact triple_restated (point4 V O B c t) rfl .rfl fun _ => .rfl

/-! ## The second half, into the other rows of the same result -/

/-- Window `w`'s block at point `t`. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What one point leaves. -/
def out5 (z : Vec F S4096x64 .f32) (q : Vec F S4096x128 .f32) : Vec F S4096x64 .f32 := k5_pay1 z (View.ld q cols)

theorem body5 (c : Dev nD) (E : Set ℕ) (i : grid5.Coords) (a : Memref sig .tc .vmem S4096x64 .f32) (ha : a.IsWhole)
    (b : Memref sig .tc .vmem S4096x128 .f32) (hb : b.IsWhole) (o : Memref sig .tc .vmem S4096x64 .f32) (ho : o.IsWhole)
    (z : Vec F S4096x64 .f32) (q : Vec F S4096x128 .f32) (k : PUnit → sProp 𝕄) :
    iprop(owns (c : Thread nD τ) a fullShare z ∗ owns (c : Thread nD τ) b fullShare q ∗ (∃ d, owns (c : Thread nD τ) o fullShare d)
        ∗ (iprop(owns (c : Thread nD τ) a fullShare z ∗ owns (c : Thread nD τ) b fullShare q ∗ owns (c : Thread nD τ) o fullShare (out5 z q)) -∗ k ⟨⟩))
      ⊢ wp frame (wpE (defs₀ (F := F)) 𝒱₀ c none) E
          (cc5__st_last i a ha b hb (Memref.whole main_v5) (Memref.isWhole_whole _) o ho) k := by
  rw [cc5__st_last_eq_skeleton]; unfold cc5__st_last_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => View.cover_of_tiled [⟨Rect.unit (s := S4096x64) ![0, 0] S4096x64.size inb_S4096x64_S4096x64_0_0, _⟩] S4096x64.size (by rfl) y),
    View.canon_unit_zero (by decide)]
  unfold out5
  congr 1
  exact View.ld_unit_zero (S := S4096x64) (by decide) inb_S4096x64_S4096x64_0_0 _

/-- The call's proof data. -/
def dat5 (c : Dev nD) : Dat τ (Elt F) (HIx 2) ℕ UU ℕ cfg5 c where
  A w := V c (Pipeline.arrRef spec5 w)
  after w t := match w with
    | ⟨0, _⟩ => blk5 V c 0 t
    | ⟨1, _⟩ => blk5 V c 1 t
    | ⟨2, _⟩ => out5 (blk5 V c 0 t) (blk5 V c 1 t)
  Φ _ := Inv.inv spec5 c
  q _ := fullShare
  owed _ := O c
  recorded _ := B

theorem dat5_A (c : Dev nD) (w : Fin cfg5.W) : (dat5 V O B c).A w = V c (Pipeline.arrRef spec5 w) := by dsimp only [dat5]
theorem dat5_0 (c : Dev nD) (t : Fin cfg5.N) : (dat5 V O B c).after 0 t = blk5 V c 0 t := by dsimp only [dat5]
theorem dat5_1 (c : Dev nD) (t : Fin cfg5.N) : (dat5 V O B c).after 1 t = blk5 V c 1 t := by dsimp only [dat5]
theorem dat5_2 (c : Dev nD) (t : Fin cfg5.N) : (dat5 V O B c).after 2 t = out5 (blk5 V c 0 t) (blk5 V c 1 t) := by dsimp only [dat5]

theorem found5_0 (c : Dev nD) (t : Fin cfg5.N) (d) : (dat5 V O B c).before 0 t d = blk5 V c 0 t :=
  ((dat5 V O B c).before_in_eq_fetched 0 rfl (fun _ => rfl) (fun _ _ _ => rfl) (fun t => by rw [dat5_0]; unfold Dat.blockOf blk5; rw [dat5_A]) t d).trans
    (by unfold Dat.fetched Dat.blockOf blk5; rw [dat5_A]; rfl)
theorem found5_1 (c : Dev nD) (t : Fin cfg5.N) (d) : (dat5 V O B c).before 1 t d = blk5 V c 1 t :=
  ((dat5 V O B c).before_in_eq_fetched 1 rfl (fun _ => rfl) (fun _ _ _ => rfl) (fun t => by rw [dat5_1]; unfold Dat.blockOf blk5; rw [dat5_A]) t d).trans
    (by unfold Dat.fetched Dat.blockOf blk5; rw [dat5_A]; rfl)

theorem point5 (c : Dev nD) (t : Fin cfg5.N) :
    (iprop((dat5 V O B c).Φ t.castSucc ∗ (dat5 V O B c).owesAt none t.castSucc
      ∗ (∃ d, owns (c : Thread nD τ) (st5_0 t) fullShare ((dat5 V O B c).before 0 t d))
      ∗ (∃ d, owns (c : Thread nD τ) (st5_1 t) fullShare ((dat5 V O B c).before 1 t d))
      ∗ (∃ d, owns (c : Thread nD τ) (st5_2 t) fullShare ((dat5 V O B c).before 2 t d))) : sProp 𝕄)
    ⊢ wp frame (wpE (defs₀ (F := F)) 𝒱₀ c none) Set.univ (bodyAt5 t) (fun _ =>
      iprop((dat5 V O B c).Φ t.succ ∗ (dat5 V O B c).owesAt none t.succ
        ∗ owns (c : Thread nD τ) (st5_0 t) fullShare ((dat5 V O B c).after 0 t)
        ∗ owns (c : Thread nD τ) (st5_1 t) fullShare ((dat5 V O B c).after 1 t)
        ∗ owns (c : Thread nD τ) (st5_2 t) fullShare ((dat5 V O B c).after 2 t))) := by
  unfold bodyAt5
  simp only [found5_0, found5_1]
  rw [show (dat5 V O B c).Φ t.succ = (dat5 V O B c).Φ t.castSucc from rfl,
    show (dat5 V O B c).owesAt none t.succ = (dat5 V O B c).owesAt none t.castSucc from rfl, dat5_0, dat5_1, dat5_2]
  iintro ⟨HΦ, Ho, ⟨%d0, H0⟩, ⟨%d1, H1⟩, ⟨%d2, H2⟩⟩
  iapply (body5 c Set.univ (grid5.coords t) _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row5 (t : Fin cfg5.N) : defs₀ (F := F) .tc cfg5.body (cfg5.bodyArgs t (cfg5.slots t)) = bodyAt5 t := by
  unfold defs₀; rfl

theorem obl5 (c : Dev nD) : BodyObligation (dat5 (F := F) V O B c) (defs₀ (F := F)) 𝒱₀ none Set.univ := fun t => by
  rw [bigSep_W5, bigSep_W5, row5]
  exact triple_restated (point5 V O B c t) rfl .rfl fun _ => .rfl

end Cert.Proof.St
-- ==== Proof.VqFirst.lean ====
/- The first half's nearest codewords: each point writes its rows' indices, adds its rows' least distances to a
   running total, and the first point writes the codewords padded to 128 columns. -/
module

public import proofs.«01_k».proof.Proof.Inv

@[expose] public section

set_option maxRecDepth 16384

noncomputable section

namespace Cert.Proof.VqFirst

open Cert.KernelIdeal Cert.KernelIdeal.Gen Cert.Proof.Tile Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The two runs of the body -/

section Runs

variable (c : Dev nD) (E : Set ℕ) (i : grid0.Coords) (a : Memref sig .tc .vmem S1024x64 .f32) (ha : a.IsWhole)
  (b : Memref sig .tc .vmem S1024x64 .f32) (hb : b.IsWhole) (o : Memref sig .tc .vmem S1024 .i32) (ho : o.IsWhole)
  (s : Memref sig .tc .vmem S1x1 .f32) (hs : s.IsWhole) (p : Memref sig .tc .vmem S1024x128 .f32) (hp : p.IsWhole)
  (z e : Vec F S1024x64 .f32)

/-- The first point: the total is set, and the padded codewords are written. -/
theorem body_first (h1 : k0_cond1 i = 1#1) (h2 : ¬ k0_cond2 i = 1#1) (k : PUnit → sProp 𝕄) :
    iprop(owns (c : Thread nD τ) a fullShare z ∗ owns (c : Thread nD τ) b fullShare e ∗ (∃ d, owns (c : Thread nD τ) o fullShare d)
        ∗ (∃ d, owns (c : Thread nD τ) s fullShare d) ∗ (∃ d, owns (c : Thread nD τ) p fullShare d)
        ∗ (iprop(owns (c : Thread nD τ) a fullShare z ∗ owns (c : Thread nD τ) b fullShare e ∗ owns (c : Thread nD τ) o fullShare (k0_pay3 z e)
            ∗ owns (c : Thread nD τ) s fullShare (k0_pay4 z e) ∗ owns (c : Thread nD τ) p fullShare (k0_pay5 e)) -∗ k ⟨⟩))
      ⊢ wp frame (wpE (defs₀ (F := F)) 𝒱₀ c none) E (cc0__vq_tc_first i a ha b hb o ho s hs p hp) k := by
  rw [cc0__vq_tc_first_eq_skeleton]; unfold cc0__vq_tc_first_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec (disch := first | sl_exact h1 | sl_exact h2)
  sl_step
  have e0 := View.ld_unit_zero (S := S1024x64) (by decide) inb_S1024x64_S1024x64_0_0 (a.view.read (Elt F) f0)
  have e1 := View.ld_unit_zero (S := S1024x64) (by decide) inb_S1024x64_S1024x64_0_0 (b.view.read (Elt F) f1)
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (Inv.read_last _ _ (by decide) _ _ _).trans (congrArg₂ k0_pay3 e0 e1)
  isplitl [H3]
  · iexists _; isplitr
    swap; · iexact H3
    ipureintro
    exact (Inv.read_last _ _ (by decide) _ _ _).trans (congrArg₂ k0_pay4 e0 e1)
  iexists _; isplitr
  swap; · iexact H4
  ipureintro
  exact (Inv.read_last _ _ (by decide) _ _ _).trans (congrArg k0_pay5 e1)

/-- A later point: the total so far, `x`, grows by this point's part. -/
theorem body_later (h1 : ¬ k0_cond1 i = 1#1) (h2 : k0_cond2 i = 1#1) (x : Vec F S1x1 .f32) (k : PUnit → sProp 𝕄) :
    iprop(owns (c : Thread nD τ) a fullShare z ∗ owns (c : Thread nD τ) b fullShare e ∗ (∃ d, owns (c : Thread nD τ) o fullShare d)
        ∗ owns (c : Thread nD τ) s fullShare x
        ∗ (iprop(owns (c : Thread nD τ) a fullShare z ∗ owns (c : Thread nD τ) b fullShare e ∗ owns (c : Thread nD τ) o fullShare (k0_pay3 z e)
            ∗ owns (c : Thread nD τ) s fullShare (k0_pay6 z e x)) -∗ k ⟨⟩))
      ⊢ wp frame (wpE (defs₀ (F := F)) 𝒱₀ c none) E (cc0__vq_tc_first i a ha b hb o ho s hs p hp) k := by
  rw [cc0__vq_tc_first_eq_skeleton]; unfold cc0__vq_tc_first_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | sl_exact h1 | sl_exact h2)
  sl_step
  have e0 := View.ld_unit_zero (S := S1024x64) (by decide) inb_S1024x64_S1024x64_0_0 (a.view.read (Elt F) f0)
  have e1 := View.ld_unit_zero (S := S1024x64) (by decide) inb_S1024x64_S1024x64_0_0 (b.view.read (Elt F) f1)
  have e3 := View.ld_unit_zero (S := S1x1) (by decide) inb_S1x1_S1x1_0_0 (s.view.read (Elt F) f3)
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (Inv.read_last _ _ (by decide) _ _ _).trans (congrArg₂ k0_pay3 e0 e1)
  iexists _; isplitr
  swap; · iexact H3
  ipureintro
  refine (Inv.read_last _ _ (by decide) _ _ _).trans ?_
  exact (congrArg₂ (fun z e => k0_pay6 z e _) e0 e1).trans (congrArg (k0_pay6 _ _) e3)

end Runs

/-! ## The schedule -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)
theorem live (i : grid0.Coords) : cfg0.idle 3 i = false :=
  (by decide +kernel : ∀ i : grid0.Coords, cfg0.idle 3 i = false) i
theorem rests (t : Fin cfg0.N) (h : t.val ≠ 0) : cfg0.idle 4 (cfg0.grid.coords t) = true :=
  (by decide +kernel : ∀ t : Fin grid0.N, t.val ≠ 0 → cfg0.idle 4 (grid0.coords t) = true) t h
theorem works (t : Fin cfg0.N) (h : t.val = 0) : cfg0.idle 4 (cfg0.grid.coords t) = false :=
  (by decide +kernel : ∀ t : Fin grid0.N, t.val = 0 → cfg0.idle 4 (grid0.coords t) = false) t h
theorem lt16 (t : Fin cfg0.N) : t.val < 16 := lt_of_lt_of_eq t.isLt (by decide +kernel)

/-- Once written, the padded codewords' buffer is not fresh before the last point. -/
theorem fresh4 : ∀ t : Fin cfg0.N, t.val ≠ 0 → cfg0.fresh 4 t.val = false :=
  (by decide +kernel : ∀ t : Fin grid0.N, t.val ≠ 0 → cfg0.fresh 4 t.val = false)

/-! ## The proof data -/

variable (V : (c : Dev nD) → (b : Ref sig .tc) → Buf (Elt F) ((c : Thread nD τ).loc b))
  (O : Dev nD → CellTallies nD τ sig (HIx 2)) (B : Set (SemLoc sig × HIx 2))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running total after point `n`. -/
def total (c : Dev nD) : (n : ℕ) → n < cfg0.N → Vec F S1x1 .f32
  | 0, h => k0_pay4 (blk V c 0 ⟨0, h⟩) (blk V c 1 ⟨0, h⟩)
  | n + 1, h => k0_pay6 (blk V c 0 ⟨n + 1, h⟩) (blk V c 1 ⟨n + 1, h⟩) (total c n (Nat.lt_of_succ_lt h))

theorem pos : 0 < cfg0.N := by decide +kernel

/-- The call's proof data. -/
def dat (c : Dev nD) : Dat τ (Elt F) (HIx 2) ℕ UU ℕ cfg0 c where
  A w := V c (Pipeline.arrRef spec0 w)
  after w t := match w with
    | ⟨0, _⟩ => blk V c 0 t
    | ⟨1, _⟩ => blk V c 1 t
    | ⟨2, _⟩ => k0_pay3 (blk V c 0 t) (blk V c 1 t)
    | ⟨3, _⟩ => total V c t.val t.isLt
    | ⟨4, _⟩ => k0_pay5 (blk V c 1 ⟨0, pos⟩)
  Φ _ := Inv.inv spec0 c
  q _ := fullShare
  owed _ := O c
  recorded _ := B

theorem dat_A (c : Dev nD) (w : Fin cfg0.W) : (dat V O B c).A w = V c (Pipeline.arrRef spec0 w) := by dsimp only [dat]
theorem dat_0 (c : Dev nD) (t : Fin cfg0.N) : (dat V O B c).after 0 t = blk V c 0 t := by dsimp only [dat]
theorem dat_1 (c : Dev nD) (t : Fin cfg0.N) : (dat V O B c).after 1 t = blk V c 1 t := by dsimp only [dat]
theorem dat_2 (c : Dev nD) (t : Fin cfg0.N) : (dat V O B c).after 2 t = k0_pay3 (blk V c 0 t) (blk V c 1 t) := by dsimp only [dat]
theorem dat_3 (c : Dev nD) (t : Fin cfg0.N) : (dat V O B c).after 3 t = total V c t.val t.isLt := by dsimp only [dat]
theorem dat_4 (c : Dev nD) (t : Fin cfg0.N) : (dat V O B c).after 4 t = k0_pay5 (blk V c 1 ⟨0, pos⟩) := by dsimp only [dat]

theorem found_0 (c : Dev nD) (t : Fin cfg0.N) (d) : (dat V O B c).before 0 t d = blk V c 0 t :=
  ((dat V O B c).before_in_eq_fetched 0 rfl (fun _ => rfl) (fun _ _ _ => rfl) (fun t => by rw [dat_0]; unfold Dat.blockOf blk; rw [dat_A]) t d).trans
    (by unfold Dat.fetched Dat.blockOf blk; rw [dat_A]; rfl)
theorem found_1 (c : Dev nD) (t : Fin cfg0.N) (d) : (dat V O B c).before 1 t d = blk V c 1 t :=
  ((dat V O B c).before_in_eq_fetched 1 rfl (fun _ => rfl) (fun _ _ _ => rfl) (fun t => by rw [dat_1]; unfold Dat.blockOf blk; rw [dat_A]) t d).trans
    (by unfold Dat.fetched Dat.blockOf blk; rw [dat_A]; rfl)

/-- At a later point the total's buffer holds the total after the point before. -/
theorem found_3 (c : Dev nD) (n : ℕ) (h : n + 1 < cfg0.N) (d) : (dat V O B c).before 3 ⟨n + 1, h⟩ d = total V c n (Nat.lt_of_succ_lt h) := by
  rw [(dat V O B c).before_out_kept 3 rfl ⟨n + 1, h⟩ (Nat.succ_ne_zero n) _ live (fun _ _ => rfl) d, dat_3]
  · rfl
  · have := lt16 ⟨n + 1, h⟩
    rw [Bool.eq_false_iff, Ne, flush0_3]
    dsimp only at this ⊢; omega

/-- At a later point the padded codewords' buffer holds what the first point wrote. -/
theorem found_4 (c : Dev nD) (t : Fin cfg0.N) (h : t.val ≠ 0) (d) : (dat V O B c).before 4 t d = k0_pay5 (blk V c 1 ⟨0, pos⟩) := by
  rw [(dat V O B c).before_out_traj 4 rfl (fun _ _ => rfl) (fun t _ _ _ => by rw [dat_4, dat_4]) t.val t rfl d, if_neg (by rw [fresh4 t h]; exact Bool.false_ne_true), dat_4]

/-- A point that does not write it leaves it as the schedule says. -/
theorem keep4 (c : Dev nD) (t : Fin cfg0.N) (h : t.val ≠ 0) (d) :
    (owns (c : Thread nD τ) (st0_4 t) fullShare ((dat V O B c).before 4 t d) : sProp 𝕄) ⊢ (dat V O B c).leavesExact 4 t := by
  unfold Dat.leavesExact
  rw [rests t h]
  cases hf : (cfg0.win 4).flush t
  · iintro H; iexists d; iexact H
  · rw [found_4 V O B c t h, dat_4]

/-! ## The body at a point -/

theorem point (c : Dev nD) (t : Fin cfg0.N) :
    (iprop((dat V O B c).Φ t.castSucc ∗ (dat V O B c).owesAt none t.castSucc
      ∗ (∃ d, owns (c : Thread nD τ) (st0_0 t) fullShare ((dat V O B c).before 0 t d))
      ∗ (∃ d, owns (c : Thread nD τ) (st0_1 t) fullShare ((dat V O B c).before 1 t d))
      ∗ (∃ d, owns (c : Thread nD τ) (st0_2 t) fullShare ((dat V O B c).before 2 t d))
      ∗ (∃ d, owns (c : Thread nD τ) (st0_3 t) fullShare ((dat V O B c).before 3 t d))
      ∗ (∃ d, owns (c : Thread nD τ) (st0_4 t) fullShare ((dat V O B c).before 4 t d))) : sProp 𝕄)
    ⊢ wp frame (wpE (defs₀ (F := F)) 𝒱₀ c none) Set.univ (bodyAt0 t) (fun _ =>
      iprop((dat V O B c).Φ t.succ ∗ (dat V O B c).owesAt none t.succ
        ∗ (dat V O B c).leavesExact 0 t ∗ (dat V O B c).leavesExact 1 t ∗ (dat V O B c).leavesExact 2 t
        ∗ (dat V O B c).leavesExact 3 t ∗ (dat V O B c).leavesExact 4 t)) := by
  unfold bodyAt0
  simp only [found_0, found_1]
  have l0 : (dat V O B c).leavesExact 0 t = owns (c : Thread nD τ) (st0_0 t) fullShare (blk V c 0 t) := by
    rw [← dat_0 V O B c t]
  have l1 : (dat V O B c).leavesExact 1 t = owns (c : Thread nD τ) (st0_1 t) fullShare (blk V c 1 t) := by
    rw [← dat_1 V O B c t]
  have l2 : (dat V O B c).leavesExact 2 t = owns (c : Thread nD τ) (st0_2 t) fullShare (k0_pay3 (blk V c 0 t) (blk V c 1 t)) := by
    rw [← dat_2 V O B c t]
  have l3 : (dat V O B c).leavesExact 3 t = owns (c : Thread nD τ) (st0_3 t) fullShare (total V c t.val t.isLt) := by
    rw [← dat_3 V O B c t]; unfold Dat.leavesExact; rw [live]
  rw [show (dat V O B c).Φ t.succ = (dat V O B c).Φ t.castSucc from rfl,
    show (dat V O B c).owesAt none t.succ = (dat V O B c).owesAt none t.castSucc from rfl, l0, l1, l2, l3]
  by_cases h0 : t.val = 0
  · have l4 : (dat V O B c).leavesExact 4 t = owns (c : Thread nD τ) (st0_4 t) fullShare (k0_pay5 (blk V c 1 ⟨0, pos⟩)) := by
      rw [← dat_4 V O B c t]; unfold Dat.leavesExact; rw [works t h0]
    rw [l4]
    obtain rfl : t = ⟨0, pos⟩ := Fin.ext h0
    iintro ⟨HΦ, Ho, ⟨%d0, H0⟩, ⟨%d1, H1⟩, ⟨%d2, H2⟩, ⟨%d3, H3⟩, ⟨%d4, H4⟩⟩
    iapply (body_first c Set.univ (grid0.coords ⟨0, pos⟩) _ _ _ _ _ _ _ _ _ _ (blk V c 0 ⟨0, pos⟩) (blk V c 1 ⟨0, pos⟩)
      ((cond1_iff _).mpr rfl) (fun h => (cond2_iff _).mp h rfl) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · obtain ⟨_ | n, hlt⟩ := t
    · exact absurd rfl h0
    simp only [found_3]
    iintro ⟨HΦ, Ho, ⟨%d0, H0⟩, ⟨%d1, H1⟩, ⟨%d2, H2⟩, ⟨%d3, H3⟩, ⟨%d4, H4⟩⟩
    iapply (body_later c Set.univ (grid0.coords ⟨n + 1, hlt⟩) _ _ _ _ _ _ _ _ _ _ (blk V c 0 ⟨n + 1, hlt⟩) (blk V c 1 ⟨n + 1, hlt⟩)
      (fun h => Nat.succ_ne_zero n ((cond1_iff _).mp h)) ((cond2_iff _).mpr (Nat.succ_ne_zero n)) (total V c n (Nat.lt_of_succ_lt hlt)) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    isplitl [H3]; · iexact H3
    iapply (keep4 V O B c ⟨n + 1, hlt⟩ (Nat.succ_ne_zero n) d4); iexact H4

theorem row (t : Fin cfg0.N) : defs₀ (F := F) .tc cfg0.body (cfg0.bodyArgs t (cfg0.slots t)) = bodyAt0 t := by
  unfold defs₀; rfl

theorem obl (c : Dev nD) : BodyObligation (dat (F := F) V O B c) (defs₀ (F := F)) 𝒱₀ none Set.univ := fun t => by
  rw [bigSep_W0, bigSep_W0, row]
  exact triple_restated (point V O B c t) rfl .rfl fun _ => .rfl

end Cert.Proof.VqFirst
-- ==== Proof.VqLast.lean ====
/- The second half's nearest codewords: each point writes its rows' indices and adds its rows' least distances to a
   running total; the last point adds the first half's total and turns the sum into the loss. -/
module

public import proofs.«01_k».proof.Proof.Inv

@[expose] public section

set_option maxRecDepth 16384

noncomputable section

namespace Cert.Proof.VqLast

open Cert.KernelIdeal Cert.KernelIdeal.Gen Cert.Proof.Tile Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The three runs of the body -/

section Runs

variable (c : Dev nD) (E : Set ℕ) (i : grid2.Coords) (a : Memref sig .tc .vmem S1024x64 .f32) (ha : a.IsWhole)
  (b : Memref sig .tc .vmem S1024x64 .f32) (hb : b.IsWhole) (r : Memref sig .tc .vmem S1x1 .f32) (hr : r.IsWhole)
  (o : Memref sig .tc .vmem S1024 .i32) (ho : o.IsWhole) (s : Memref sig .tc .vmem S1x1 .f32) (hs : s.IsWhole)
  (z e : Vec F S1024x64 .f32) (y : Vec F S1x1 .f32)

/-- The first point: the total is set. -/
theorem body_first (h1 : k2_cond1 i = 1#1) (h2 : ¬ k2_cond2 i = 1#1) (h3 : ¬ k2_cond3 i = 1#1) (k : PUnit → sProp 𝕄) :
    iprop(owns (c : Thread nD τ) a fullShare z ∗ owns (c : Thread nD τ) b fullShare e ∗ owns (c : Thread nD τ) r fullShare y
        ∗ (∃ d, owns (c : Thread nD τ) o fullShare d) ∗ (∃ d, owns (c : Thread nD τ) s fullShare d)
        ∗ (iprop(owns (c : Thread nD τ) a fullShare z ∗ owns (c : Thread nD τ) b fullShare e ∗ owns (c : Thread nD τ) r fullShare y
            ∗ owns (c : Thread nD τ) o fullShare (k2_pay4 z e) ∗ owns (c : Thread nD τ) s fullShare (k2_pay5 z e)) -∗ k ⟨⟩))
      ⊢ wp frame (wpE (defs₀ (F := F)) 𝒱₀ c none) E (cc2__vq_tc_last i a ha b hb r hr o ho s hs) k := by
  rw [cc2__vq_tc_last_eq_skeleton]; unfold cc2__vq_tc_last_skel
  rw [k2_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact h1 | sl_exact h2 | sl_exact h3)
  sl_step
  have e0 := View.ld_unit_zero (S := S1024x64) (by decide) inb_S1024x64_S1024x64_0_0 (a.view.read (Elt F) f0)
  have e1 := View.ld_unit_zero (S := S1024x64) (by decide) inb_S1024x64_S1024x64_0_0 (b.view.read (Elt F) f1)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (Inv.read_last _ _ (by decide) _ _ _).trans (congrArg₂ k2_pay4 e0 e1)
  iexists _; isplitr
  swap; · iexact H4
  ipureintro
  exact (Inv.read_last _ _ (by decide) _ _ _).trans (congrArg₂ k2_pay5 e0 e1)

/-- A point between: the total so far, `x`, grows by this point's part. -/
theorem body_later (h1 : ¬ k2_cond1 i = 1#1) (h2 : k2_cond2 i = 1#1) (h3 : ¬ k2_cond3 i = 1#1) (x : Vec F S1x1 .f32) (k : PUnit → sProp 𝕄) :
    iprop(owns (c : Thread nD τ) a fullShare z ∗ owns (c : Thread nD τ) b fullShare e ∗ owns (c : Thread nD τ) r fullShare y
        ∗ (∃ d, owns (c : Thread nD τ) o fullShare d) ∗ owns (c : Thread nD τ) s fullShare x
        ∗ (iprop(owns (c : Thread nD τ) a fullShare z ∗ owns (c : Thread nD τ) b fullShare e ∗ owns (c : Thread nD τ) r fullShare y
            ∗ owns (c : Thread nD τ) o fullShare (k2_pay4 z e) ∗ owns (c : Thread nD τ) s fullShare (k2_pay6 z e x)) -∗ k ⟨⟩))
      ⊢ wp frame (wpE (defs₀ (F := F)) 𝒱₀ c none) E (cc2__vq_tc_last i a ha b hb r hr o ho s hs) k := by
  rw [cc2__vq_tc_last_eq_skeleton]; unfold cc2__vq_tc_last_skel
  rw [k2_part1_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact h1 | sl_exact h2 | sl_exact h3)
  sl_step
  have e0 := View.ld_unit_zero (S := S1024x64) (by decide) inb_S1024x64_S1024x64_0_0 (a.view.read (Elt F) f0)
  have e1 := View.ld_unit_zero (S := S1024x64) (by decide) inb_S1024x64_S1024x64_0_0 (b.view.read (Elt F) f1)
  have e4 := View.ld_unit_zero (S := S1x1) (by decide) inb_S1x1_S1x1_0_0 (s.view.read (Elt F) f4)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (Inv.read_last _ _ (by decide) _ _ _).trans (congrArg₂ k2_pay4 e0 e1)
  iexists _; isplitr
  swap; · iexact H4
  ipureintro
  refine (Inv.read_last _ _ (by decide) _ _ _).trans ?_
  exact (congrArg₂ (fun z e => k2_pay6 z e _) e0 e1).trans (congrArg (k2_pay6 _ _) e4)

/-- The last point: the total grows by this point's part and is turned, with the first half's total, into the loss. -/
theorem body_last (h1 : ¬ k2_cond1 i = 1#1) (h2 : k2_cond2 i = 1#1) (h3 : k2_cond3 i = 1#1) (x : Vec F S1x1 .f32) (k : PUnit → sProp 𝕄) :
    iprop(owns (c : Thread nD τ) a fullShare z ∗ owns (c : Thread nD τ) b fullShare e ∗ owns (c : Thread nD τ) r fullShare y
        ∗ (∃ d, owns (c : Thread nD τ) o fullShare d) ∗ owns (c : Thread nD τ) s fullShare x
        ∗ (iprop(owns (c : Thread nD τ) a fullShare z ∗ owns (c : Thread nD τ) b fullShare e ∗ owns (c : Thread nD τ) r fullShare y
            ∗ owns (c : Thread nD τ) o fullShare (k2_pay4 z e) ∗ owns (c : Thread nD τ) s fullShare (k2_pay1 (k2_pay6 z e x) y)) -∗ k ⟨⟩))
      ⊢ wp frame (wpE (defs₀ (F := F)) 𝒱₀ c none) E (cc2__vq_tc_last i a ha b hb r hr o ho s hs) k := by
  rw [cc2__vq_tc_last_eq_skeleton]; unfold cc2__vq_tc_last_skel
  rw [k2_part1_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact h1 | sl_exact h2 | sl_exact h3)
  sl_step
  have e0 := View.ld_unit_zero (S := S1024x64) (by decide) inb_S1024x64_S1024x64_0_0 (a.view.read (Elt F) f0)
  have e1 := View.ld_unit_zero (S := S1024x64) (by decide) inb_S1024x64_S1024x64_0_0 (b.view.read (Elt F) f1)
  have e2 := View.ld_unit_zero (S := S1x1) (by decide) inb_S1x1_S1x1_0_0 (r.view.read (Elt F) f2)
  have e4 := View.ld_unit_zero (S := S1x1) (by decide) inb_S1x1_S1x1_0_0 (s.view.read (Elt F) f4)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (Inv.read_last _ _ (by decide) _ _ _).trans (congrArg₂ k2_pay4 e0 e1)
  iexists _; isplitr
  swap; · iexact H4
  ipureintro
  refine (Inv.read_last _ _ (by decide) _ _ _).trans ?_
  refine congrArg₂ k2_pay1 ?_ e2
  refine (View.readCov_unit_zero _ (by decide) _ _).trans ?_
  exact (congrArg₂ (fun z e => k2_pay6 z e _) e0 e1).trans (congrArg (k2_pay6 _ _) e4)

end Runs

/-! ## The schedule -/

theorem cond1_iff : ∀ t : Fin cfg2.N, k2_cond1 (grid2.coords t) = 1#1 ↔ t.val = 0 :=
  (by decide +kernel : ∀ t : Fin grid2.N, k2_cond1 (grid2.coords t) = 1#1 ↔ t.val = 0)
theorem cond2_iff : ∀ t : Fin cfg2.N, k2_cond2 (grid2.coords t) = 1#1 ↔ t.val ≠ 0 :=
  (by decide +kernel : ∀ t : Fin grid2.N, k2_cond2 (grid2.coords t) = 1#1 ↔ t.val ≠ 0)
theorem cond3_iff : ∀ t : Fin cfg2.N, k2_cond3 (grid2.coords t) = 1#1 ↔ t.val = 15 :=
  (by decide +kernel : ∀ t : Fin grid2.N, k2_cond3 (grid2.coords t) = 1#1 ↔ t.val = 15)
theorem live (i : grid2.Coords) : cfg2.idle 4 i = false :=
  (by decide +kernel : ∀ i : grid2.Coords, cfg2.idle 4 i = false) i
theorem lt16 (t : Fin cfg2.N) : t.val < 16 := lt_of_lt_of_eq t.isLt (by decide +kernel)
theorem pos : 0 < cfg2.N := by decide +kernel

/-! ## The proof data -/

variable (V : (c : Dev nD) → (b : Ref sig .tc) → Buf (Elt F) ((c : Thread nD τ).loc b))
  (O : Dev nD → CellTallies nD τ sig (HIx 2)) (B : Set (SemLoc sig × HIx 2))

/-- Window `w`'s block at point `t`. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running total after point `n`, before the last point's turn. -/
def total (c : Dev nD) : (n : ℕ) → n < cfg2.N → Vec F S1x1 .f32
  | 0, h => k2_pay5 (blk V c 0 ⟨0, h⟩) (blk V c 1 ⟨0, h⟩)
  | n + 1, h => k2_pay6 (blk V c 0 ⟨n + 1, h⟩) (blk V c 1 ⟨n + 1, h⟩) (total c n (Nat.lt_of_succ_lt h))

/-- What the total's buffer holds after a point: the total, at the last point turned into the loss. -/
def held (c : Dev nD) (t : Fin cfg2.N) : Vec F S1x1 .f32 :=
  if t.val = 15 then k2_pay1 (total V c t.val t.isLt) (blk V c 2 t) else total V c t.val t.isLt

/-- The call's proof data. -/
def dat (c : Dev nD) : Dat τ (Elt F) (HIx 2) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => k2_pay4 (blk V c 0 t) (blk V c 1 t)
    | ⟨4, _⟩ => held V c t
  Φ _ := Inv.inv spec2 c
  q _ := fullShare
  owed _ := O c
  recorded _ := B

theorem dat_A (c : Dev nD) (w : Fin cfg2.W) : (dat V O B c).A w = V c (Pipeline.arrRef spec2 w) := by dsimp only [dat]
theorem dat_0 (c : Dev nD) (t : Fin cfg2.N) : (dat V O B c).after 0 t = blk V c 0 t := by dsimp only [dat]
theorem dat_1 (c : Dev nD) (t : Fin cfg2.N) : (dat V O B c).after 1 t = blk V c 1 t := by dsimp only [dat]
theorem dat_2 (c : Dev nD) (t : Fin cfg2.N) : (dat V O B c).after 2 t = blk V c 2 t := by dsimp only [dat]
theorem dat_3 (c : Dev nD) (t : Fin cfg2.N) : (dat V O B c).after 3 t = k2_pay4 (blk V c 0 t) (blk V c 1 t) := by dsimp only [dat]
theorem dat_4 (c : Dev nD) (t : Fin cfg2.N) : (dat V O B c).after 4 t = held V c t := by dsimp only [dat]

theorem found_0 (c : Dev nD) (t : Fin cfg2.N) (d) : (dat V O B c).before 0 t d = blk V c 0 t :=
  ((dat V O B c).before_in_eq_fetched 0 rfl (fun _ => rfl) (fun _ _ _ => rfl) (fun t => by rw [dat_0]; unfold Dat.blockOf blk; rw [dat_A]) t d).trans
    (by unfold Dat.fetched Dat.blockOf blk; rw [dat_A]; rfl)
theorem found_1 (c : Dev nD) (t : Fin cfg2.N) (d) : (dat V O B c).before 1 t d = blk V c 1 t :=
  ((dat V O B c).before_in_eq_fetched 1 rfl (fun _ => rfl) (fun _ _ _ => rfl) (fun t => by rw [dat_1]; unfold Dat.blockOf blk; rw [dat_A]) t d).trans
    (by unfold Dat.fetched Dat.blockOf blk; rw [dat_A]; rfl)
theorem found_2 (c : Dev nD) (t : Fin cfg2.N) (d) : (dat V O B c).before 2 t d = blk V c 2 t :=
  ((dat V O B c).before_in_eq_fetched 2 rfl (fun _ => rfl) (fun _ _ _ => rfl) (fun t => by rw [dat_2]; unfold Dat.blockOf blk; rw [dat_A]) t d).trans
    (by unfold Dat.fetched Dat.blockOf blk; rw [dat_A]; rfl)

/-- At a later point the total's buffer holds the total after the point before. -/
theorem found_4 (c : Dev nD) (n : ℕ) (h : n + 1 < cfg2.N) (d) : (dat V O B c).before 4 ⟨n + 1, h⟩ d = total V c n (Nat.lt_of_succ_lt h) := by
  have := lt16 ⟨n + 1, h⟩
  rw [(dat V O B c).before_out_kept 4 rfl ⟨n + 1, h⟩ (Nat.succ_ne_zero n) _ live (fun _ _ => rfl) d, dat_4]
  · exact if_neg (by dsimp only at this ⊢; omega)
  · rw [Bool.eq_false_iff, Ne, flush2_4]
    dsimp only at this ⊢; omega

/-! ## The body at a point -/

theorem point (c : Dev nD) (t : Fin cfg2.N) :
    (iprop((dat V O B c).Φ t.castSucc ∗ (dat V O B c).owesAt none t.castSucc
      ∗ (∃ d, owns (c : Thread nD τ) (st2_0 t) fullShare ((dat V O B c).before 0 t d))
      ∗ (∃ d, owns (c : Thread nD τ) (st2_1 t) fullShare ((dat V O B c).before 1 t d))
      ∗ (∃ d, owns (c : Thread nD τ) (st2_2 t) fullShare ((dat V O B c).before 2 t d))
      ∗ (∃ d, owns (c : Thread nD τ) (st2_3 t) fullShare ((dat V O B c).before 3 t d))
      ∗ (∃ d, owns (c : Thread nD τ) (st2_4 t) fullShare ((dat V O B c).before 4 t d))) : sProp 𝕄)
    ⊢ wp frame (wpE (defs₀ (F := F)) 𝒱₀ c none) Set.univ (bodyAt2 t) (fun _ =>
      iprop((dat V O B c).Φ t.succ ∗ (dat V O B c).owesAt none t.succ
        ∗ (dat V O B c).leavesExact 0 t ∗ (dat V O B c).leavesExact 1 t ∗ (dat V O B c).leavesExact 2 t
        ∗ (dat V O B c).leavesExact 3 t ∗ (dat V O B c).leavesExact 4 t)) := by
  unfold bodyAt2
  simp only [found_0, found_1, found_2]
  have l0 : (dat V O B c).leavesExact 0 t = owns (c : Thread nD τ) (st2_0 t) fullShare (blk V c 0 t) := by
    rw [← dat_0 V O B c t]
  have l1 : (dat V O B c).leavesExact 1 t = owns (c : Thread nD τ) (st2_1 t) fullShare (blk V c 1 t) := by
    rw [← dat_1 V O B c t]
  have l2 : (dat V O B c).leavesExact 2 t = owns (c : Thread nD τ) (st2_2 t) fullShare (blk V c 2 t) := by
    rw [← dat_2 V O B c t]
  have l3 : (dat V O B c).leavesExact 3 t = owns (c : Thread nD τ) (st2_3 t) fullShare (k2_pay4 (blk V c 0 t) (blk V c 1 t)) := by
    rw [← dat_3 V O B c t]
  have l4 : (dat V O B c).leavesExact 4 t = owns (c : Thread nD τ) (st2_4 t) fullShare (held V c t) := by
    rw [← dat_4 V O B c t]; unfold Dat.leavesExact; rw [live]
  rw [show (dat V O B c).Φ t.succ = (dat V O B c).Φ t.castSucc from rfl,
    show (dat V O B c).owesAt none t.succ = (dat V O B c).owesAt none t.castSucc from rfl, l0, l1, l2, l3, l4]
  obtain ⟨_ | n, hlt⟩ := t
  · rw [show held V c ⟨0, hlt⟩ = k2_pay5 (blk V c 0 ⟨0, hlt⟩) (blk V c 1 ⟨0, hlt⟩) from if_neg (show ¬ (0 : ℕ) = 15 by decide)]
    iintro ⟨HΦ, Ho, ⟨%d0, H0⟩, ⟨%d1, H1⟩, ⟨%d2, H2⟩, ⟨%d3, H3⟩, ⟨%d4, H4⟩⟩
    iapply (body_first c Set.univ (grid2.coords ⟨0, hlt⟩) _ _ _ _ _ _ _ _ _ _ (blk V c 0 ⟨0, hlt⟩) (blk V c 1 ⟨0, hlt⟩) (blk V c 2 ⟨0, hlt⟩)
      ((cond1_iff _).mpr rfl) (fun h => (cond2_iff _).mp h rfl) (fun h => absurd ((cond3_iff _).mp h) (show ¬ (0 : ℕ) = 15 by decide)) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [found_4]
    by_cases h15 : n + 1 = 15
    · rw [show held V c ⟨n + 1, hlt⟩ = k2_pay1 (k2_pay6 (blk V c 0 ⟨n + 1, hlt⟩) (blk V c 1 ⟨n + 1, hlt⟩) (total V c n (Nat.lt_of_succ_lt hlt)))
        (blk V c 2 ⟨n + 1, hlt⟩) from if_pos h15]
      iintro ⟨HΦ, Ho, ⟨%d0, H0⟩, ⟨%d1, H1⟩, ⟨%d2, H2⟩, ⟨%d3, H3⟩, ⟨%d4, H4⟩⟩
      iapply (body_last c Set.univ (grid2.coords ⟨n + 1, hlt⟩) _ _ _ _ _ _ _ _ _ _ (blk V c 0 ⟨n + 1, hlt⟩) (blk V c 1 ⟨n + 1, hlt⟩) (blk V c 2 ⟨n + 1, hlt⟩)
        (fun h => Nat.succ_ne_zero n ((cond1_iff _).mp h)) ((cond2_iff _).mpr (Nat.succ_ne_zero n)) ((cond3_iff _).mpr h15) (total V c n (Nat.lt_of_succ_lt hlt)) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [show held V c ⟨n + 1, hlt⟩ = k2_pay6 (blk V c 0 ⟨n + 1, hlt⟩) (blk V c 1 ⟨n + 1, hlt⟩) (total V c n (Nat.lt_of_succ_lt hlt)) from if_neg h15]
      iintro ⟨HΦ, Ho, ⟨%d0, H0⟩, ⟨%d1, H1⟩, ⟨%d2, H2⟩, ⟨%d3, H3⟩, ⟨%d4, H4⟩⟩
      iapply (body_later c Set.univ (grid2.coords ⟨n + 1, hlt⟩) _ _ _ _ _ _ _ _ _ _ (blk V c 0 ⟨n + 1, hlt⟩) (blk V c 1 ⟨n + 1, hlt⟩) (blk V c 2 ⟨n + 1, hlt⟩)
        (fun h => Nat.succ_ne_zero n ((cond1_iff _).mp h)) ((cond2_iff _).mpr (Nat.succ_ne_zero n)) (fun h => h15 ((cond3_iff _).mp h)) (total V c n (Nat.lt_of_succ_lt hlt)) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

theorem row (t : Fin cfg2.N) : defs₀ (F := F) .tc cfg2.body (cfg2.bodyArgs t (cfg2.slots t)) = bodyAt2 t := by
  unfold defs₀; rfl

theorem obl (c : Dev nD) : BodyObligation (dat (F := F) V O B c) (defs₀ (F := F)) 𝒱₀ none Set.univ := fun t => by
  rw [bigSep_W2, bigSep_W2, row]
  exact triple_restated (point V O B c t) rfl .rfl fun _ => .rfl

end Cert.Proof.VqLast
-- ==== Proof.Vals.lean ====
/- What every array of the TensorCore's memory holds between two operations of the host, from the launch memory on: the host's
   own operations, the four TensorCore calls by what their pipelines leave, the two SparseCore calls by the rows they gather. -/
module

public import proofs.«01_k».proof.Proof.Reg
public import proofs.«01_k».proof.Proof.St
public import proofs.«01_k».proof.Proof.VqFirst
public import proofs.«01_k».proof.Proof.VqLast

@[expose] public section

set_option maxRecDepth 16384

noncomputable section

namespace Cert.Proof.Vals

open Cert.KernelIdeal Cert.KernelIdeal.Gen Cert.Proof.Tile Cert.Proof.Sc Cert.Proof.Reg Cert.Proof
open Idealize.ShloMosaic Idealize.ShloMosaic.TcCoe Idealize.ShloMosaic.Tactic
open Idealize.ShloMosaic.SparseCore.Cfg (HIx)
open Idealize.SL Idealize.SL.RA Idealize.SL.BI
open Idealize.ShloMosaic.Rounds
open Idealize.ShloMosaic.Pipeline (Dat BodyObligation)

variable {F : FTy → Type} [FloatOps F]

/-- A device's memory at a point of the host's program. -/
abbrev Mem (F : FTy → Type) := Dev nD → Valuation τ sig (Elt F)
/-- The same, read at a TensorCore's buffers. -/
abbrev at_ (V : Mem F) : (c : Dev nD) → (b : Ref sig .tc) → Buf (Elt F) ((c : Thread nD τ).loc b) := fun c b => V c (Proc.devRef .tc b)

/-- The four pipelines' data, each entered at its own memory. -/
def dats (Va Vb Vc Vd : Mem F) : (p : Fin 4) → (c : Dev nD) → Dat τ (Elt F) (HIx 2) ℕ UU ℕ (Pipeline.pin (pcfgs (F := F)) adm p) c
  | ⟨0, _⟩ => fun c => VqFirst.dat (at_ Va) (fun c => (K (F := F)).Otc c 0) (seen (F := F) 0 c) c
  | ⟨1, _⟩ => fun c => VqLast.dat (at_ Vb) (fun c => (K (F := F)).Otc c 1) (seen (F := F) 1 c) c
  | ⟨2, _⟩ => fun c => St.dat4 (at_ Vc) (fun c => (K (F := F)).Otc c 2) (seen (F := F) 2 c) c
  | ⟨3, _⟩ => fun c => St.dat5 (at_ Vd) (fun c => (K (F := F)).Otc c 2) (seen (F := F) 2 c) c

/-- The arrays of the two calls of a device, as the gathered rows' operands. -/
def table (V : Mem F) (d : Dev nD) : S1024x128.Idx → Elt F .f32 := V d (Proc.devRef .tc main_v1_2)
def list1 (V : Mem F) (d : Dev nD) : S16384.Idx → Elt F .i32 := V d (Proc.devRef .tc main_v1_0)
def list3 (V : Mem F) (d : Dev nD) : S16384.Idx → Elt F .i32 := V d (Proc.devRef .tc main_v3_0)

/-- The memory after the first SparseCore call. -/
def gather1 (V : Mem F) : Mem F := fun d => Function.update (V d) (Proc.devRef .tc main_v2) (Rows.gOut (table V d) (list1 V d))
/-- The memory after the second. -/
def gather3 (V : Mem F) : Mem F := fun d => Function.update (V d) (Proc.devRef .tc main_v4) (Rows.gOut (table V d) (list3 V d))

abbrev opIn : HloOp τ sig (Elt F) := StableHlo.reshape main_arg0 main_v0 (rfl : (.f32 : EltTy) = .f32) shapeCasts_S32x1024x64_S32768x64
abbrev opCopy : HloOp τ sig (Elt F) := StableHlo.unary main_v5 main_v6 id
abbrev opCat : HloOp τ sig (Elt F) := StableHlo.binary main_v1_0 main_v3_0 main_v7 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
abbrev opOut : HloOp τ sig (Elt F) := StableHlo.reshape main_v6 main_v8 (rfl : (.f32 : EltTy) = .f32) shapeCasts_S32768x64_S32x1024x64
abbrev opLoss : HloOp τ sig (Elt F) := StableHlo.reshape main_v3_1 main_v9 (rfl : (.f32 : EltTy) = .f32) shapeCasts_S1x1_S_

variable (m : (ℓ : Loc nD τ sig) → Buf (Elt F) ℓ)

def W0 : Mem F := fun d b => m (d, b)
def W1 : Mem F := fun d => (opIn (F := F)).result (W0 m d)
def W2 : Mem F := leaves (dats (W1 m) (W1 m) (W1 m) (W1 m)) 0 (W1 m)
def W3 : Mem F := gather1 (W2 m)
def W4 : Mem F := leaves (dats (W3 m) (W3 m) (W3 m) (W3 m)) 1 (W3 m)
def W5 : Mem F := gather3 (W4 m)
def W6 : Mem F := leaves (dats (W5 m) (W5 m) (W5 m) (W5 m)) 2 (W5 m)
def W7 : Mem F := fun d => (opCopy (F := F)).result (W6 m d)
def W8 : Mem F := leaves (dats (W7 m) (W7 m) (W7 m) (W7 m)) 3 (W7 m)
def W9 : Mem F := fun d => (opCat (F := F)).result (W8 m d)
def W10 : Mem F := fun d => (opOut (F := F)).result (W9 m d)
def W11 : Mem F := fun d => (opLoss (F := F)).result (W10 m d)

abbrev pd := dats (W1 m) (W3 m) (W5 m) (W7 m)

theorem leaves0 : leaves (pd m) 0 (W1 m) = W2 m := rfl
theorem leaves1 : leaves (pd m) 1 (W3 m) = W4 m := rfl
theorem leaves2 : leaves (pd m) 2 (W5 m) = W6 m := rfl
theorem leaves3 : leaves (pd m) 3 (W7 m) = W8 m := rfl

theorem fits0 : Fits (pd m) 0 0 (W1 m) where
  entry c w := VqFirst.dat_A (at_ (W1 m)) (fun c => (K (F := F)).Otc c 0) (seen (F := F) 0 c) c w
  owed _ _ := rfl
  recorded _ _ := rfl
  inv _ _ := rfl
  share c := Dat.share_full (VqFirst.dat (at_ (W1 m)) (fun c => (K (F := F)).Otc c 0) (seen (F := F) 0 c) c) fun _ => rfl
  body c := (VqFirst.obl (at_ (W1 m)) (fun c => (K (F := F)).Otc c 0) (seen (F := F) 0 c) c).loose

theorem fits1 : Fits (pd m) 1 1 (W3 m) where
  entry c w := VqLast.dat_A (at_ (W3 m)) (fun c => (K (F := F)).Otc c 1) (seen (F := F) 1 c) c w
  owed _ _ := rfl
  recorded _ _ := rfl
  inv _ _ := rfl
  share c := Dat.share_full (VqLast.dat (at_ (W3 m)) (fun c => (K (F := F)).Otc c 1) (seen (F := F) 1 c) c) fun _ => rfl
  body c := (VqLast.obl (at_ (W3 m)) (fun c => (K (F := F)).Otc c 1) (seen (F := F) 1 c) c).loose

theorem fits2 : Fits (pd m) 2 2 (W5 m) where
  entry c w := St.dat4_A (at_ (W5 m)) (fun c => (K (F := F)).Otc c 2) (seen (F := F) 2 c) c w
  owed _ _ := rfl
  recorded _ _ := rfl
  inv _ _ := rfl
  share c := Dat.share_full (St.dat4 (at_ (W5 m)) (fun c => (K (F := F)).Otc c 2) (seen (F := F) 2 c) c) fun _ => rfl
  body c := (St.obl4 (at_ (W5 m)) (fun c => (K (F := F)).Otc c 2) (seen (F := F) 2 c) c).loose

theorem fits3 : Fits (pd m) 3 2 (W7 m) where
  entry c w := St.dat5_A (at_ (W7 m)) (fun c => (K (F := F)).Otc c 2) (seen (F := F) 2 c) c w
  owed _ _ := rfl
  recorded _ _ := rfl
  inv _ _ := rfl
  share c := Dat.share_full (St.dat5 (at_ (W7 m)) (fun c => (K (F := F)).Otc c 2) (seen (F := F) 2 c) c) fun _ => rfl
  body c := (St.obl5 (at_ (W7 m)) (fun c => (K (F := F)).Otc c 2) (seen (F := F) 2 c) c).loose

/-- The calls' operands: the table is the one the first call left. -/
def calls : At F where
  fe := table (W2 m)
  i1 := list1 (W2 m)
  i3 := list3 (W4 m)
  o1 d := W2 m d (Proc.devRef .tc main_v2)
  o3 d := W4 m d (Proc.devRef .tc main_v4)

/-- An index the first TensorCore call leaves, and one the second does, is a row of the table. -/
def PreOK : Prop := (∀ d j, BitVec.toNat (list1 (W2 m) d j) < 1024) ∧ ∀ d j, BitVec.toNat (list3 (W4 m) d j) < 1024

theorem devRef_ne {a b : Ref sig .tc} (h : a ≠ b) : (Proc.devRef .tc a : DevRef τ sig) ≠ Proc.devRef .tc b := fun e => h (Proc.devRef_injective _ e)

theorem table4 (d : Dev nD) : table (W4 m) d = table (W2 m) d := by
  have h : W4 m d (Proc.devRef .tc main_v1_2) = W3 m d (Proc.devRef .tc main_v1_2) :=
    leaves_of_ne (dats (W3 m) (W3 m) (W3 m) (W3 m)) 1 (W3 m) d main_v1_2 fun w e =>
      absurd e ((by decide : ∀ w : Fin cfg2.W, Pipeline.arrRef spec2 w ≠ main_v1_2) w)
  have h' : W3 m d (Proc.devRef .tc main_v1_2) = W2 m d (Proc.devRef .tc main_v1_2) :=
    by unfold W3 gather1; exact Function.update_of_ne (devRef_ne (show main_v1_2 ≠ main_v2 by decide)) _ _
  exact h.trans h'

end Cert.Proof.Vals

end
-- ==== Proof.Keep.lean ====
/- What each operation of the kernel's host program leaves as it was, and the two arguments at its end. -/
module

public import proofs.«01_k».proof.Proof.Vals

@[expose] public section

set_option maxRecDepth 16384

noncomputable section

namespace Cert.Proof.Keep

open Cert.KernelIdeal Cert.KernelIdeal.Gen Cert.Proof.Tile Cert.Proof.Sc Cert.Proof.Reg Cert.Proof Cert.Proof.Vals
open Idealize.ShloMosaic Idealize.ShloMosaic.TcCoe
open Idealize.ShloMosaic.Pipeline (Dat)

variable {F : FTy → Type} [FloatOps F] (m : (ℓ : Loc nD τ sig) → Buf (Elt F) ℓ) (d : Dev nD) (b : Ref sig .tc)

theorem keep_op (op : HloOp τ sig (Elt F)) (y : Ref sig .tc) (hw : op.writes = {Proc.devRef .tc y}) (V : Valuation τ sig (Elt F)) (h : b ≠ y) :
    op.result V (Proc.devRef .tc b) = V (Proc.devRef .tc b) :=
  op.result_of_not_mem V (by rw [hw, Finset.mem_singleton]; exact devRef_ne h)

theorem keep1 (h : b ≠ main_v0) : at_ (W1 m) d b = at_ (W0 m) d b := keep_op b opIn main_v0 rfl (W0 m d) h
theorem keep3 (h : b ≠ main_v2) : at_ (W3 m) d b = at_ (W2 m) d b := by
  unfold at_ W3 gather1; exact Function.update_of_ne (devRef_ne h) _ _
theorem keep5 (h : b ≠ main_v4) : at_ (W5 m) d b = at_ (W4 m) d b := by
  unfold at_ W5 gather3; exact Function.update_of_ne (devRef_ne h) _ _
theorem keep7 (h : b ≠ main_v6) : at_ (W7 m) d b = at_ (W6 m) d b := keep_op b opCopy main_v6 rfl (W6 m d) h
theorem keep9 (h : b ≠ main_v7) : at_ (W9 m) d b = at_ (W8 m) d b := keep_op b opCat main_v7 rfl (W8 m d) h
theorem keep10 (h : b ≠ main_v8) : at_ (W10 m) d b = at_ (W9 m) d b := keep_op b opOut main_v8 rfl (W9 m d) h
theorem keep11 (h : b ≠ main_v9) : at_ (W11 m) d b = at_ (W10 m) d b := keep_op b opLoss main_v9 rfl (W10 m d) h

theorem keep2 (h : ∀ w : Fin cfg0.W, Pipeline.arrRef spec0 w ≠ b) : at_ (W2 m) d b = at_ (W1 m) d b :=
  leaves_of_ne (dats (W1 m) (W1 m) (W1 m) (W1 m)) 0 (W1 m) d b h
theorem keep4 (h : ∀ w : Fin cfg2.W, Pipeline.arrRef spec2 w ≠ b) : at_ (W4 m) d b = at_ (W3 m) d b :=
  leaves_of_ne (dats (W3 m) (W3 m) (W3 m) (W3 m)) 1 (W3 m) d b h
theorem keep6 (h : ∀ w : Fin cfg4.W, Pipeline.arrRef spec4 w ≠ b) : at_ (W6 m) d b = at_ (W5 m) d b :=
  leaves_of_ne (dats (W5 m) (W5 m) (W5 m) (W5 m)) 2 (W5 m) d b h
theorem keep8 (h : ∀ w : Fin cfg5.W, Pipeline.arrRef spec5 w ≠ b) : at_ (W8 m) d b = at_ (W7 m) d b :=
  leaves_of_ne (dats (W7 m) (W7 m) (W7 m) (W7 m)) 3 (W7 m) d b h

/-! ## What a call leaves in the array of one of its windows -/

theorem arr2 (w : Fin cfg0.W) : at_ (W2 m) d (Pipeline.arrRef spec0 w)
    = (VqFirst.dat (at_ (W1 m)) (fun c => (K (F := F)).Otc c 0) (seen (F := F) 0 d) d).arrAt w cfg0.N :=
  leaves_arr (dats (W1 m) (W1 m) (W1 m) (W1 m)) 0 (W1 m) d w
theorem arr4 (w : Fin cfg2.W) : at_ (W4 m) d (Pipeline.arrRef spec2 w)
    = (VqLast.dat (at_ (W3 m)) (fun c => (K (F := F)).Otc c 1) (seen (F := F) 1 d) d).arrAt w cfg2.N :=
  leaves_arr (dats (W3 m) (W3 m) (W3 m) (W3 m)) 1 (W3 m) d w
theorem arr6 (w : Fin cfg4.W) : at_ (W6 m) d (Pipeline.arrRef spec4 w)
    = (St.dat4 (at_ (W5 m)) (fun c => (K (F := F)).Otc c 2) (seen (F := F) 2 d) d).arrAt w cfg4.N :=
  leaves_arr (dats (W5 m) (W5 m) (W5 m) (W5 m)) 2 (W5 m) d w
theorem arr8 (w : Fin cfg5.W) : at_ (W8 m) d (Pipeline.arrRef spec5 w)
    = (St.dat5 (at_ (W7 m)) (fun c => (K (F := F)).Otc c 2) (seen (F := F) 2 d) d).arrAt w cfg5.N :=
  leaves_arr (dats (W7 m) (W7 m) (W7 m) (W7 m)) 3 (W7 m) d w

theorem in2 (w : Fin cfg0.W) (h : (cfg0.win w).isOut = false) : at_ (W2 m) d (Pipeline.arrRef spec0 w) = at_ (W1 m) d (Pipeline.arrRef spec0 w) :=
  (arr2 m d w).trans ((Dat.arrAt_in _ w h _).trans (VqFirst.dat_A _ _ _ d w))
theorem in4 (w : Fin cfg2.W) (h : (cfg2.win w).isOut = false) : at_ (W4 m) d (Pipeline.arrRef spec2 w) = at_ (W3 m) d (Pipeline.arrRef spec2 w) :=
  (arr4 m d w).trans ((Dat.arrAt_in _ w h _).trans (VqLast.dat_A _ _ _ d w))
theorem in6 (w : Fin cfg4.W) (h : (cfg4.win w).isOut = false) : at_ (W6 m) d (Pipeline.arrRef spec4 w) = at_ (W5 m) d (Pipeline.arrRef spec4 w) :=
  (arr6 m d w).trans ((Dat.arrAt_in _ w h _).trans (St.dat4_A _ _ _ d w))
theorem in8 (w : Fin cfg5.W) (h : (cfg5.win w).isOut = false) : at_ (W8 m) d (Pipeline.arrRef spec5 w) = at_ (W7 m) d (Pipeline.arrRef spec5 w) :=
  (arr8 m d w).trans ((Dat.arrAt_in _ w h _).trans (St.dat5_A _ _ _ d w))

/-! ## The arguments, and the reshaped input -/

theorem arg1_3 : at_ (W3 m) d main_arg1 = at_ (W0 m) d main_arg1 :=
  (keep3 m d main_arg1 (by decide)).trans ((in2 m d 1 rfl).trans (keep1 m d main_arg1 (by decide)))

theorem arg1_11 : at_ (W11 m) d main_arg1 = at_ (W0 m) d main_arg1 :=
  (keep11 m d _ (by decide)).trans ((keep10 m d _ (by decide)).trans ((keep9 m d _ (by decide)).trans ((keep8 m d _ (by decide)).trans
    ((keep7 m d _ (by decide)).trans ((keep6 m d _ (by decide)).trans ((keep5 m d main_arg1 (by decide)).trans ((in4 m d 1 rfl).trans (arg1_3 m d))))))))

theorem arg0_11 : at_ (W11 m) d main_arg0 = at_ (W0 m) d main_arg0 :=
  (keep11 m d _ (by decide)).trans ((keep10 m d _ (by decide)).trans ((keep9 m d _ (by decide)).trans ((keep8 m d _ (by decide)).trans
    ((keep7 m d _ (by decide)).trans ((keep6 m d _ (by decide)).trans ((keep5 m d _ (by decide)).trans ((keep4 m d _ (by decide)).trans
      ((keep3 m d _ (by decide)).trans ((keep2 m d _ (by decide)).trans (keep1 m d _ (by decide)))))))))))

theorem v0_3 : at_ (W3 m) d main_v0 = at_ (W1 m) d main_v0 := (keep3 m d main_v0 (by decide)).trans (in2 m d 0 rfl)
theorem v0_5 : at_ (W5 m) d main_v0 = at_ (W1 m) d main_v0 := (keep5 m d main_v0 (by decide)).trans ((in4 m d 0 rfl).trans (v0_3 m d))
theorem v0_7 : at_ (W7 m) d main_v0 = at_ (W1 m) d main_v0 := (keep7 m d main_v0 (by decide)).trans ((in6 m d 0 rfl).trans (v0_5 m d))

/-- The reshaped input. -/
theorem v0_1 : at_ (W1 m) d main_v0 = shapeCast S32768x64 (at_ (W0 m) d main_arg0 : S32x1024x64.Idx → Elt F .f32) shapeCasts_S32x1024x64_S32768x64 :=
  StableHlo.reshape_result main_arg0 main_v0 rfl shapeCasts_S32x1024x64_S32768x64 ⟨by decide, rfl⟩ ⟨by decide, rfl⟩ (W0 m d)

end Cert.Proof.Keep

end
-- ==== Proof.Best.lean ====
/-
  THE CODE NEAREST TO A ROW, as plain mathematics over the extended reals: the distances of one row from
  1024 codes are a function `f`; `least f` is the smallest of them and `best f` the first code that attains
  it. The kernel finds that code by taking the least of the numbers of the codes that attain the minimum
  (`least_marked`); the reference folds pairs of a distance and a number (`fold_pick`).
-/
module

public import Idealize.ShloMosaic.Lib.Pointwise
public import Idealize.ShloMosaic.PureOps.Ideal

@[expose] public section

namespace Cert.Proof.Best

open Idealize.ShloMosaic

/-- The smallest of 1024 values. -/
noncomputable def least (f : Fin 1024 → EReal) : EReal := Finset.univ.fold min ⊤ f

theorem le_least (f : Fin 1024 → EReal) (a : EReal) : a ≤ least f ↔ ∀ k, a ≤ f k := by
  rw [least, Finset.le_fold_min]
  exact ⟨fun h k => h.2 k (Finset.mem_univ k), fun h => ⟨le_top, fun k _ => h k⟩⟩

theorem least_le (f : Fin 1024 → EReal) (k : Fin 1024) : least f ≤ f k := (le_least f _).1 le_rfl k

/-- Some code attains the smallest value. -/
theorem attained (f : Fin 1024 → EReal) : ∃ k, f k = least f := by
  obtain ⟨k, -, hk⟩ := Finset.exists_min_image Finset.univ f ⟨0, Finset.mem_univ _⟩
  exact ⟨k, le_antisymm ((le_least f _).2 fun j => hk j (Finset.mem_univ j)) (least_le f k)⟩

/-- The first code that attains the smallest value. -/
noncomputable def best (f : Fin 1024 → EReal) : Fin 1024 :=
  (Finset.univ.filter fun k => f k = least f).min'
    ((attained f).imp fun k hk => Finset.mem_filter.2 ⟨Finset.mem_univ k, hk⟩)

theorem best_spec (f : Fin 1024 → EReal) : f (best f) = least f :=
  (Finset.mem_filter.1 (Finset.min'_mem (Finset.univ.filter fun k => f k = least f) _)).2

theorem best_le (f : Fin 1024 → EReal) (k : Fin 1024) (hk : f k = least f) : best f ≤ k :=
  Finset.min'_le _ _ (Finset.mem_filter.2 ⟨Finset.mem_univ k, hk⟩)

/-! ### The least of the marked numbers -/

/-- A code's number where it attains the minimum, 1024 elsewhere. -/
noncomputable def marked (f : Fin 1024 → EReal) (k : Fin 1024) : EReal :=
  if f k = least f then ((k.val : ℝ) : EReal) else ((1024 : ℝ) : EReal)

/-- The least of the marked numbers is the number of the first code that attains the minimum. -/
theorem least_marked (f : Fin 1024 → EReal) : least (marked f) = (((best f).val : ℝ) : EReal) := by
  refine le_antisymm ?_ ((le_least _ _).2 fun k => ?_)
  · refine (least_le _ (best f)).trans_eq ?_
    rw [marked, if_pos (best_spec f)]
  · unfold marked
    split
    · rename_i h
      exact EReal.coe_le_coe_iff.2 (Nat.cast_le.2 (best_le f k h))
    · refine EReal.coe_le_coe_iff.2 ?_
      exact_mod_cast (best f).isLt.le

/-- A small natural number, read back as a 32-bit word. -/
theorem word_of_nat (n : Nat) (h : n < 1024) : Ideal.fptosi 32 (((n : ℝ) : EReal)) = BitVec.ofNat 32 n := by
  rw [Ideal.fptosi, Ideal.toIntClamped_coe, if_pos (Nat.cast_nonneg n), Int.floor_natCast]
  have e : max (-((2 ^ (32 - 1) : Nat) : ℤ)) (min (((2 ^ (32 - 1) : Nat) : ℤ) - 1) (n : ℤ)) = (n : ℤ) := by
    norm_num; omega
  rw [e]
  exact BitVec.ofInt_natCast 32 n

theorem toNat_word (k : Fin 1024) : (BitVec.ofNat 32 k.val).toNat = k.val := by
  rw [BitVec.toNat_ofNat]
  have := k.isLt
  omega

theorem toInt_word (k : Fin 1024) : (BitVec.ofNat 32 k.val).toInt = (k.val : ℤ) := by
  rw [BitVec.toInt_eq_toNat_cond, toNat_word]
  have := k.isLt
  split <;> omega

/-! ### Folding pairs of a value and a number -/

/-- A value and the number it stands at. -/
abbrev Pair := EReal × BitVec 32

/-- `a` comes no later than `b`: a smaller value, or the same value at no larger a number. -/
def Before (a b : Pair) : Prop := a.1 < b.1 ∨ a.1 = b.1 ∧ a.2.toInt ≤ b.2.toInt

theorem Before.refl (a : Pair) : Before a a := Or.inr ⟨rfl, le_rfl⟩

theorem Before.trans {a b c : Pair} (h : Before a b) (h' : Before b c) : Before a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A step that keeps one of its two pairs, the one that comes first. -/
structure Picks (step : Pair → Pair → Pair) : Prop where
  one : ∀ a b, step a b = a ∨ step a b = b
  left : ∀ a b, Before (step a b) a
  right : ∀ a b, Before (step a b) b

/-- Folding such a step over a list keeps one of the pairs, which comes before all of them. -/
theorem fold_picks {step : Pair → Pair → Pair} (hs : Picks step) (l : List Pair) (a : Pair) :
    (l.foldl step a = a ∨ l.foldl step a ∈ l) ∧ Before (l.foldl step a) a ∧ ∀ p ∈ l, Before (l.foldl step a) p := by
  induction l generalizing a with
  | nil => exact ⟨Or.inl rfl, Before.refl a, by simp⟩
  | cons b l ih =>
    obtain ⟨h₁, h₂, h₃⟩ := ih (step a b)
    rw [List.foldl_cons]
    refine ⟨?_, h₂.trans (hs.left a b), fun p hp => ?_⟩
    · rcases h₁ with h₁ | h₁
      · rcases hs.one a b with e | e
        · exact Or.inl (h₁.trans e)
        · exact Or.inr (List.mem_cons.2 (Or.inl (h₁.trans e)))
      · exact Or.inr (List.mem_cons.2 (Or.inr h₁))
    · rcases List.mem_cons.1 hp with rfl | hp
      · exact h₂.trans (hs.right a p)
      · exact h₃ p hp

/-- Folding such a step from `(⊤, 0)` over the pairs of a value and its number gives the first code that
attains the smallest value. -/
theorem fold_pick {step : Pair → Pair → Pair} (hs : Picks step) (f : Fin 1024 → EReal) (l : List Pair)
    (hl : ∀ p, p ∈ l ↔ ∃ k : Fin 1024, p = (f k, BitVec.ofNat 32 k.val)) :
    (l.foldl step (⊤, 0#32)).2 = BitVec.ofNat 32 (best f).val := by
  obtain ⟨h₁, -, h₃⟩ := fold_picks hs l (⊤, 0#32)
  generalize l.foldl step (⊤, 0#32) = r at h₁ h₃ ⊢
  have hle : ∀ k, r.1 ≤ f k := fun k => by
    rcases h₃ _ ((hl _).2 ⟨k, rfl⟩) with h | ⟨h, -⟩
    · exact h.le
    · exact h.le
  have hr : r.1 ≤ least f := (le_least f _).2 hle
  rcases h₁ with rfl | h
  · have hz : f 0 = least f := le_antisymm (le_top.trans hr) (least_le f 0)
    have := best_le f 0 hz
    rw [Fin.le_zero_iff.1 this]
    rfl
  · obtain ⟨k, rfl⟩ := (hl _).1 h
    have hk : f k = least f := le_antisymm hr (least_le f k)
    have h₄ := best_le f k hk
    have h₅ : k ≤ best f := by
      rcases h₃ _ ((hl _).2 ⟨best f, rfl⟩) with h | ⟨-, h⟩
      · exact absurd (hk.trans (best_spec f).symm) (ne_of_lt h)
      · have h' : (BitVec.ofNat 32 k.val).toInt ≤ (BitVec.ofNat 32 (best f).val).toInt := h
        rw [toInt_word, toInt_word] at h'
        exact Fin.le_def.2 (by exact_mod_cast h')
    rw [le_antisymm h₄ h₅]

/-! ### Distances -/

/-- The squared distance of a row from a code, as the programs compute it. -/
noncomputable def dist (z : Fin 64 → EReal) (e : Fin 1024 → Fin 64 → EReal) (k : Fin 1024) : EReal :=
  ((∑ c, z c * z c) - 2 * ∑ c, z c * e k c) + ∑ c, e k c * e k c

/-- Of real rows it is the sum of the squared differences. -/
theorem dist_real (z : Fin 64 → ℝ) (e : Fin 1024 → Fin 64 → ℝ) (k : Fin 1024) :
    dist (fun c => (z c : EReal)) (fun k c => (e k c : EReal)) k = ((∑ c, (e k c - z c) * (e k c - z c) : ℝ) : EReal) := by
  have h : (∑ c, (e k c - z c) * (e k c - z c)) = ((∑ c, z c * z c) - 2 * ∑ c, z c * e k c) + ∑ c, e k c * e k c := by
    rw [Finset.mul_sum, ← Finset.sum_sub_distrib, ← Finset.sum_add_distrib]
    exact Finset.sum_congr rfl fun c _ => by ring
  rw [h, dist]
  push_cast
  rfl

/-- Doubling a real row before or after the products are summed. -/
theorem double_real (z e : Fin 64 → ℝ) :
    (∑ c, ((2 : EReal) * (z c : EReal)) * (e c : EReal)) = 2 * ∑ c, (z c : EReal) * (e c : EReal) := by
  have h : (∑ c, (2 * z c) * e c) = 2 * ∑ c, z c * e c := by
    rw [Finset.mul_sum]
    exact Finset.sum_congr rfl fun c _ => by ring
  have h' := congrArg (fun r : ℝ => (r : EReal)) h
  push_cast at h'
  exact h'

end Cert.Proof.Best
-- ==== Proof.Pay.lean ====
/- What the kernel's bodies compute, read at an index over the extended reals: the distances, the nearest code's number, the sum
   of the smallest distances, the padded codes, the scaled loss, and the result with the gathered code put through. -/
module

public import proofs.«01_k».proof.Proof.Gen.KernelIdeal
public import proofs.«01_k».proof.Proof.Gen.KernelIdeal.Skeleton
public import proofs.«01_k».proof.Proof.Best

@[expose] public section

set_option maxRecDepth 16384

noncomputable section

namespace Cert.Proof.Pay

open Cert.KernelIdeal Cert.KernelIdeal.Gen Cert.Proof Cert.Proof.Best
open Idealize.ShloMosaic

/-- A row of a block. -/
abbrev row (z : Vec Ideal S1024x64 .f32) (r : Fin 1024) : Fin 64 → EReal := fun c => z (ix2 r c)
/-- The codes, by number and column. -/
abbrev codes (e : Vec Ideal S1024x64 .f32) : Fin 1024 → Fin 64 → EReal := fun k c => e (ix2 k c)

theorem two_word : Ideal.ofBits .f32 0x40000000#32 = 2 := by
  simp [Ideal.ofBits, Ideal.ieee, -EReal.coe_mul]; norm_num
  rfl

theorem top_word : Ideal.ofBits .f32 0x7F800000#32 = ⊤ := by
  simp [Ideal.ofBits, Ideal.ieee]

theorem past_word : Ideal.ofBits .f32 0x44800000#32 = ((1024 : ℝ) : EReal) := by
  simp [Ideal.ofBits, Ideal.ieee, -EReal.coe_mul]; norm_num

/-- One divided by 2^21. -/
theorem share_word : Ideal.ofBits .f32 0x35000000#32 = ((1 / 2097152 : ℝ) : EReal) := by
  simp [Ideal.ofBits, Ideal.ieee, -EReal.coe_mul]; norm_num

theorem quarter_word : Ideal.ofBits .f32 0x3E800000#32 = ((1 / 4 : ℝ) : EReal) := by
  simp [Ideal.ofBits, Ideal.ieee, -EReal.coe_mul]; norm_num

theorem pay1_apply (z e : Vec Ideal S1024x64 .f32) (r k : Fin 1024) :
    k0_pay1 (F := Ideal) z e (ix2 r k) = dist (row z r) (codes e) k := by
  pointwise [k0_pay1]
  rw [show Ideal.ofBits .f32 1073741824#32 = 2 from two_word]
  rfl

attribute [local irreducible] k0_pay1 in
theorem pay2_apply (z e : Vec Ideal S1024x64 .f32) (r : Fin 1024) (o : Fin 1) :
    k0_pay2 (F := Ideal) z e (ix2 r o) = least (dist (row z r) (codes e)) := by
  pointwise [k0_pay2]
  rw [show Ideal.ofBits .f32 2139095040#32 = ⊤ from top_word]
  exact congrArg least (funext fun k => pay1_apply z e r k)

attribute [local irreducible] k0_pay1 k0_pay2 in
theorem pay3_apply (z e : Vec Ideal S1024x64 .f32) (r : Fin 1024) :
    k0_pay3 (F := Ideal) z e (ix1 r) = BitVec.ofNat 32 (best (dist (row z r) (codes e))).val := by
  pointwise [k0_pay3]
  rw [show Ideal.ofBits .f32 2139095040#32 = ⊤ from top_word, show Ideal.ofBits .f32 1149239296#32 = ((1024 : ℝ) : EReal) from past_word]
  have h : (fun x : Fin 1024 => if k0_pay1 (F := Ideal) z e (ix2 r x) = k0_pay2 z e (ix2 r 0)
      then (FloatOps.sitofp (F := Ideal) .f32 (BitVec.ofNat 32 x.val) : EReal) else ((1024 : ℝ) : EReal)) = marked (dist (row z r) (codes e)) := by
    funext k
    rw [pay1_apply, pay2_apply, marked]
    refine if_congr Iff.rfl ?_ rfl
    change (((BitVec.ofNat 32 k.val).toInt : ℝ) : EReal) = _
    rw [toInt_word, Int.cast_natCast]
  rw [h]
  exact (congrArg (Ideal.fptosi 32) (least_marked _)).trans (word_of_nat _ (best _).isLt)

/-- The sum of a column, put in the one place of the total. -/
def colSum (y : FVec Ideal S1024x1 .f32) : FVec Ideal S1x1 .f32 :=
  broadcast S1x1 (extractAt ![0, 0, 0] (shapeCast S1x1x1 (multiReduction .add [1, 2] S1 (shapeCast S1x1024x1 y shapeCasts_S1024x1_S1x1024x1)
    0x00000000#32 reduces_S1x1024x1_S1 (.inl rfl) rfl) shapeCasts_S1_S1x1x1) inpos_S1x1x1_p0_0_0)

theorem colSum_apply (y : FVec Ideal S1024x1 .f32) (j : S1x1.Idx) : colSum y j = ∑ r : Fin 1024, y (ix2 r 0) := by
  pointwise [colSum]
  exact Finset.sum_congr rfl fun x _ => Fin.sum_univ_one _

theorem pay4_apply (z e : Vec Ideal S1024x64 .f32) (j : S1x1.Idx) :
    k0_pay4 (F := Ideal) z e j = ∑ r : Fin 1024, least (dist (row z r) (codes e)) := by
  rw [show k0_pay4 (F := Ideal) z e = colSum (k0_pay2 z e) from rfl, colSum_apply]
  exact Finset.sum_congr rfl fun r _ => pay2_apply z e r 0

attribute [local irreducible] k0_pay4 in
theorem pay6_apply (z e : Vec Ideal S1024x64 .f32) (v : Vec Ideal S1x1 .f32) (j : S1x1.Idx) :
    k0_pay6 (F := Ideal) z e v j = v j + ∑ r : Fin 1024, least (dist (row z r) (codes e)) := by
  pointwise [k0_pay6]
  rw [pay4_apply]

/-- The second half's body computes what the first half's does. -/
theorem second_index (z e : Vec Ideal S1024x64 .f32) : k2_pay4 (F := Ideal) z e = k0_pay3 z e := rfl
theorem second_sum (z e : Vec Ideal S1024x64 .f32) : k2_pay5 (F := Ideal) z e = k0_pay4 z e := rfl
theorem second_total (z e : Vec Ideal S1024x64 .f32) (v : Vec Ideal S1x1 .f32) : k2_pay6 (F := Ideal) z e v = k0_pay6 z e v := rfl

theorem pay5_apply (e : Vec Ideal S1024x64 .f32) (k : Fin 1024) (c : Fin 64) :
    k0_pay5 (F := Ideal) e (ix2 k ⟨c.val, by omega⟩) = e (ix2 k c) := by
  pointwise [k0_pay5]

/-- A total over the 2^21 elements, made the mean and then the mean and a quarter of it. -/
def scaled (x : EReal) : EReal := x * ((1 / 2097152 : ℝ) : EReal) + ((1 / 4 : ℝ) : EReal) * (x * ((1 / 2097152 : ℝ) : EReal))

theorem loss_apply (u v : Vec Ideal S1x1 .f32) (j : S1x1.Idx) :
    k2_pay1 (F := Ideal) u v j = scaled (u j + v j) := by
  pointwise [k2_pay1]
  rw [show Ideal.ofBits .f32 889192448#32 = ((1 / 2097152 : ℝ) : EReal) from share_word,
    show Ideal.ofBits .f32 1048576000#32 = ((1 / 4 : ℝ) : EReal) from quarter_word]
  rfl

theorem through4 (z q : Vec Ideal S4096x64 .f32) (j : S4096x64.Idx) :
    k4_pay1 (F := Ideal) z q j = z j + (q j - z j) := by
  pointwise [k4_pay1]

theorem through5 (z q : Vec Ideal S4096x64 .f32) (j : S4096x64.Idx) :
    k5_pay1 (F := Ideal) z q j = z j + (q j - z j) := by
  pointwise [k5_pay1]

end Cert.Proof.Pay

end
-- ==== Proof.FinFirst.lean ====
/- The arrays the first half's call leaves, in closed form over the extended reals: each row's nearest code, the sum of the smallest
   distances, and the codes with zeros to their right. -/
module

public import proofs.«01_k».proof.Proof.VqFirst
public import proofs.«01_k».proof.Proof.Pay
public import Idealize.ShloMosaic.Lib.Pipeline.ValueKit

@[expose] public section

set_option maxRecDepth 16384

noncomputable section

namespace Cert.Proof.FinFirst

open Cert.KernelIdeal Cert.KernelIdeal.Gen Cert.Proof Cert.Proof.Best Cert.Proof.Pay
open Idealize.ShloMosaic Idealize.ShloMosaic.TcCoe
open Idealize.ShloMosaic.SparseCore.Cfg (HIx)
open Idealize.ShloMosaic.Pipeline (Dat)

/-- A row of the whole input. -/
abbrev rowOf (X : Vec Ideal S32768x64 .f32) (n : Fin 32768) : Fin 64 → EReal := fun c => X (ix2 n c)
/-- A row's distances from the codes. -/
abbrev far (X : Vec Ideal S32768x64 .f32) (e : Vec Ideal S1024x64 .f32) (n : Fin 32768) : Fin 1024 → EReal := dist (rowOf X n) (codes e)

/-- The number of a row's nearest code. -/
def near (X : Vec Ideal S32768x64 .f32) (e : Vec Ideal S1024x64 .f32) (n : Fin 32768) : BitVec 32 := BitVec.ofNat 32 (best (far X e n)).val
/-- A row's smallest distance. -/
def lowest (X : Vec Ideal S32768x64 .f32) (e : Vec Ideal S1024x64 .f32) (n : ℕ) : EReal := if h : n < 32768 then least (far X e ⟨n, h⟩) else 0
/-- The sum of the smallest distances of the rows of one block. -/
def blockSum (X : Vec Ideal S32768x64 .f32) (e : Vec Ideal S1024x64 .f32) (t : ℕ) : EReal := ∑ r : Fin 1024, lowest X e (t * 1024 + r.val)

/-- The sum of the smallest distances of 16 blocks, from block `b` on. -/
def half (X : Vec Ideal S32768x64 .f32) (e : Vec Ideal S1024x64 .f32) (b : ℕ) : EReal := ∑ t ∈ Finset.range 16, blockSum X e (b + t)
/-- The nearest codes of 16384 rows, from row `b` on. -/
def listArr (X : Vec Ideal S32768x64 .f32) (e : Vec Ideal S1024x64 .f32) (b : ℕ) (hb : b ≤ 16384) : Vec Ideal S16384 .i32 := fun i =>
  near X e ⟨b + (i 0).val, by have h : (i 0).val < 16384 := (i 0).isLt; omega⟩
/-- A single value as an array. -/
def single (x : EReal) : Vec Ideal S1x1 .f32 := fun _ => x

/-- A block's rows are the input's: so are its distances, nearest codes and smallest distances. -/
theorem block_far (X : Vec Ideal S32768x64 .f32) (e z : Vec Ideal S1024x64 .f32) (t : ℕ) (ht : t < 32)
    (hz : ∀ (r : Fin 1024) (k : Fin 64) (h : t * 1024 + r.val < 32768), z (ix2 r k) = X (ix2 ⟨t * 1024 + r.val, h⟩ k)) (r : Fin 1024)
    (h : t * 1024 + r.val < 32768) : dist (row z r) (codes e) = far X e ⟨t * 1024 + r.val, h⟩ :=
  congrArg (dist · (codes e)) (funext fun k => hz r k h)

theorem block_sum (X : Vec Ideal S32768x64 .f32) (e z : Vec Ideal S1024x64 .f32) (t : ℕ) (ht : t < 32)
    (hz : ∀ (r : Fin 1024) (k : Fin 64) (h : t * 1024 + r.val < 32768), z (ix2 r k) = X (ix2 ⟨t * 1024 + r.val, h⟩ k)) :
    (∑ r : Fin 1024, least (dist (row z r) (codes e))) = blockSum X e t :=
  Finset.sum_congr rfl fun r _ => by
    have h : t * 1024 + r.val < 32768 := by have := r.isLt; omega
    rw [lowest, dif_pos h, block_far X e z t ht hz r h]

variable (V : (c : Dev nD) → (b : Ref sig .tc) → Buf (Elt Ideal) ((c : Thread nD τ).loc b)) (O : Dev nD → CellTallies nD τ sig (HIx 2)) (B : Set (SemLoc sig × HIx 2)) (c : Dev nD)

theorem idx : ∀ t : Fin cfg0.N, win0_0.index t = ![t.val, 0] ∧ win0_1.index t = ![0, 0] ∧ win0_2.index t = ![t.val]
    ∧ win0_3.index t = ![0, 0] ∧ win0_4.index t = ![0, 0] :=
  (by decide +kernel : ∀ t : Fin grid0.N, _)

theorem blk0_apply (t : Fin cfg0.N) (r : Fin 1024) (k : Fin 64) (h : t.val * 1024 + r.val < 32768) :
    (VqFirst.blk V c 0 t : Vec Ideal S1024x64 .f32) (ix2 r k) = (V c main_v0 : Vec Ideal S32768x64 .f32) (ix2 ⟨t.val * 1024 + r.val, h⟩ k) := by
  blk_ext [VqFirst.blk, idx t]

theorem blk1_eq (t : Fin cfg0.N) : (VqFirst.blk V c 1 t : Vec Ideal S1024x64 .f32) = (V c main_arg1 : Vec Ideal S1024x64 .f32) := by
  blk_ext! [VqFirst.blk, idx t]

theorem lt16 (t : Fin cfg0.N) : t.val < 16 := VqFirst.lt16 t

theorem list_point (t : Fin cfg0.N) (y : S1024.Idx) (i : S16384.Idx) (hi : (i 0).val = t.val * 1024 + (y 0).val) :
    k0_pay3 (F := Ideal) (VqFirst.blk V c 0 t) (V c main_arg1) y = listArr (V c main_v0) (V c main_arg1) 0 (by decide) i := by
  have ht := lt16 t
  have hy : (y 0).val < 1024 := (y 0).isLt
  have h : t.val * 1024 + (y 0).val < 32768 := by omega
  obtain ⟨r, rfl⟩ : ∃ r : Fin 1024, y = ix1 r := ⟨y 0, eq_ix1 y⟩
  rw [pay3_apply, block_far (V c main_v0) (V c main_arg1) _ t.val (by omega) (blk0_apply V c t) r h, listArr, near]
  congr 4
  exact Fin.ext (by show t.val * 1024 + r.val = 0 + (i 0).val; rw [hi]; exact (Nat.zero_add _).symm)

/-- The first half's list: each row's nearest code. -/
theorem list_eq : (VqFirst.dat V O B c).arrAt 2 cfg0.N = listArr (V c main_v0) (V c main_arg1) 0 (by decide) := by
  refine (VqFirst.dat V O B c).arrAt_eq_of_covers 2 _ (by decide +kernel) fun t hf y => ?_
  blk_simp
  rw [VqFirst.dat_2, blk1_eq]
  refine list_point V c t y _ ?_
  blk_simp [idx t]

/-- The running total after a point. -/
theorem total_eq (n : ℕ) (h : n < cfg0.N) (j : S1x1.Idx) : VqFirst.total V c n h j
    = ∑ t ∈ Finset.range (n + 1), blockSum (V c main_v0) (V c main_arg1) t := by
  induction n with
  | zero =>
    rw [VqFirst.total, pay4_apply, blk1_eq, Finset.sum_range_one]
    exact block_sum _ _ _ 0 (by decide) (blk0_apply V c ⟨0, h⟩)
  | succ n ih =>
    have hn : n + 1 < 16 := lt16 ⟨n + 1, h⟩
    rw [VqFirst.total, pay6_apply, blk1_eq, Finset.sum_range_succ, ih]
    refine congrArg _ ?_
    exact block_sum _ _ _ (n + 1) (by omega) (blk0_apply V c ⟨n + 1, h⟩)

/-- What the last point leaves in the total's buffer. -/
theorem sum_point (n : ℕ) (h : n < cfg0.N) (hn : n = 15) (j : S1x1.Idx) : VqFirst.total V c n h j
    = half (V c main_v0) (V c main_arg1) 0 := by
  rw [total_eq, hn, half]
  exact Finset.sum_congr rfl fun t _ => by rw [Nat.zero_add]

/-- The first half's total. -/
theorem sum_eq : (VqFirst.dat V O B c).arrAt 3 cfg0.N = single (half (V c main_v0) (V c main_arg1) 0) := by
  refine (VqFirst.dat V O B c).arrAt_eq_of_covers 3 _ (by decide +kernel) fun t hf y => ?_
  have ht : t.val = 15 := by have := (flush0_3 t).1 hf; have := lt16 t; omega
  blk_simp
  rw [VqFirst.dat_3]
  exact sum_point V c t.val t.isLt ht y

/-- The padded codes. -/
theorem table_eq : (VqFirst.dat V O B c).arrAt 4 cfg0.N = k0_pay5 (F := Ideal) (V c main_arg1) := by
  refine (VqFirst.dat V O B c).arrAt_eq_of_after_last 4 t0_15 (by decide +kernel) _ fun j => ?_
  blk_simp
  rw [VqFirst.dat_4, blk1_eq]

end Cert.Proof.FinFirst

end
-- ==== Proof.FinLast.lean ====
/- The arrays the second half's call leaves, in closed form over the extended reals: each row's nearest code, and the loss made of
   both halves' sums of the smallest distances. -/
module

public import proofs.«01_k».proof.Proof.VqLast
public import proofs.«01_k».proof.Proof.FinFirst
public import Idealize.ShloMosaic.Lib.Pipeline.ValueKit

@[expose] public section

set_option maxRecDepth 16384

noncomputable section

namespace Cert.Proof.FinLast

open Cert.KernelIdeal Cert.KernelIdeal.Gen Cert.Proof Cert.Proof.Best Cert.Proof.Pay Cert.Proof.FinFirst
open Idealize.ShloMosaic Idealize.ShloMosaic.TcCoe
open Idealize.ShloMosaic.SparseCore.Cfg (HIx)
open Idealize.ShloMosaic.Pipeline (Dat)

variable (V : (c : Dev nD) → (b : Ref sig .tc) → Buf (Elt Ideal) ((c : Thread nD τ).loc b)) (O : Dev nD → CellTallies nD τ sig (HIx 2)) (B : Set (SemLoc sig × HIx 2)) (c : Dev nD)

theorem idx : ∀ t : Fin cfg2.N, win2_0.index t = ![16 + t.val, 0] ∧ win2_1.index t = ![0, 0] ∧ win2_2.index t = ![0, 0]
    ∧ win2_3.index t = ![t.val] ∧ win2_4.index t = ![0, 0] :=
  (by decide +kernel : ∀ t : Fin grid2.N, _)

theorem blk0_apply (t : Fin cfg2.N) (r : Fin 1024) (k : Fin 64) (h : (16 + t.val) * 1024 + r.val < 32768) :
    (VqLast.blk V c 0 t : Vec Ideal S1024x64 .f32) (ix2 r k) = (V c main_v0 : Vec Ideal S32768x64 .f32) (ix2 ⟨(16 + t.val) * 1024 + r.val, h⟩ k) := by
  blk_ext [VqLast.blk, idx t]

theorem blk1_eq (t : Fin cfg2.N) : (VqLast.blk V c 1 t : Vec Ideal S1024x64 .f32) = (V c main_arg1 : Vec Ideal S1024x64 .f32) := by
  blk_ext! [VqLast.blk, idx t]

theorem blk2_eq (t : Fin cfg2.N) (j : S1x1.Idx) : (VqLast.blk V c 2 t : Vec Ideal S1x1 .f32) j = (V c main_v1_1 : Vec Ideal S1x1 .f32) j := by
  blk_ext [VqLast.blk, idx t]

theorem lt16 (t : Fin cfg2.N) : t.val < 16 := VqLast.lt16 t

theorem list_point (t : Fin cfg2.N) (y : S1024.Idx) (i : S16384.Idx) (hi : (i 0).val = t.val * 1024 + (y 0).val) :
    k2_pay4 (F := Ideal) (VqLast.blk V c 0 t) (V c main_arg1) y = listArr (V c main_v0) (V c main_arg1) 16384 le_rfl i := by
  have ht := lt16 t
  have hy : (y 0).val < 1024 := (y 0).isLt
  have h : (16 + t.val) * 1024 + (y 0).val < 32768 := by omega
  obtain ⟨r, rfl⟩ : ∃ r : Fin 1024, y = ix1 r := ⟨y 0, eq_ix1 y⟩
  rw [second_index, pay3_apply, block_far (V c main_v0) (V c main_arg1) _ (16 + t.val) (by omega) (blk0_apply V c t) r h, listArr, near]
  congr 4
  exact Fin.ext (by show (16 + t.val) * 1024 + r.val = 16384 + (i 0).val; rw [hi]; show _ = 16384 + (t.val * 1024 + r.val); omega)

/-- The second half's list: each row's nearest code. -/
theorem list_eq : (VqLast.dat V O B c).arrAt 3 cfg2.N = listArr (V c main_v0) (V c main_arg1) 16384 le_rfl := by
  refine (VqLast.dat V O B c).arrAt_eq_of_covers 3 _ (by decide +kernel) fun t hf y => ?_
  blk_simp
  rw [VqLast.dat_3, blk1_eq]
  refine list_point V c t y _ ?_
  blk_simp [idx t]

/-- The running total after a point. -/
theorem total_eq (n : ℕ) (h : n < cfg2.N) (j : S1x1.Idx) : VqLast.total V c n h j
    = ∑ t ∈ Finset.range (n + 1), blockSum (V c main_v0) (V c main_arg1) (16 + t) := by
  induction n with
  | zero =>
    rw [VqLast.total, second_sum, pay4_apply, blk1_eq, Finset.sum_range_one]
    exact block_sum _ _ _ (16 + 0) (by decide) (blk0_apply V c ⟨0, h⟩)
  | succ n ih =>
    have hn : n + 1 < 16 := lt16 ⟨n + 1, h⟩
    rw [VqLast.total, second_total, pay6_apply, blk1_eq, Finset.sum_range_succ, ih]
    refine congrArg _ ?_
    exact block_sum _ _ _ (16 + (n + 1)) (by omega) (blk0_apply V c ⟨n + 1, h⟩)

/-- What the last point leaves in the total's buffer: the loss of both halves. -/
theorem held_point (t : Fin cfg2.N) (ht : t.val = 15) (j : S1x1.Idx) : VqLast.held V c t j
    = scaled (half (V c main_v0) (V c main_arg1) 16 + (V c main_v1_1 : Vec Ideal S1x1 .f32) j) := by
  rw [VqLast.held, if_pos ht, loss_apply, total_eq, blk2_eq, ht, half]

/-- The loss, from both halves' totals. -/
theorem loss_eq (x : EReal) (hx : ∀ j, (V c main_v1_1 : Vec Ideal S1x1 .f32) j = x) :
    (VqLast.dat V O B c).arrAt 4 cfg2.N = single (scaled (half (V c main_v0) (V c main_arg1) 16 + x)) := by
  refine (VqLast.dat V O B c).arrAt_eq_of_covers 4 _ (by decide +kernel) fun t hf y => ?_
  have ht : t.val = 15 := by have := (flush2_4 t).1 hf; have := lt16 t; omega
  blk_simp
  rw [VqLast.dat_4]
  refine (held_point V c t ht y).trans ?_
  rw [hx]
  rfl

end Cert.Proof.FinLast

end
-- ==== Proof.Held.lean ====
/- What the arrays of the kernel's host program hold over the extended reals: the two lists of nearest codes, the table, the loss. -/
module

public import proofs.«01_k».proof.Proof.Keep
public import proofs.«01_k».proof.Proof.FinLast

@[expose] public section

set_option maxRecDepth 16384

noncomputable section

namespace Cert.Proof.Held

open Cert.KernelIdeal Cert.KernelIdeal.Gen Cert.Proof Cert.Proof.Vals Cert.Proof.Keep Cert.Proof.Best Cert.Proof.Pay Cert.Proof.FinFirst
open Idealize.ShloMosaic Idealize.ShloMosaic.TcCoe

variable (m : (ℓ : Loc nD τ sig) → Buf (Elt Ideal) ℓ) (d : Dev nD)

/-- The reshaped input. -/
def X : Vec Ideal S32768x64 .f32 := at_ (W1 m) d main_v0
/-- The codes. -/
def E : Vec Ideal S1024x64 .f32 := at_ (W0 m) d main_arg1

theorem arg1_1 : at_ (W1 m) d main_arg1 = E m d := keep1 m d main_arg1 (by decide)
theorem arg1_3 : at_ (W3 m) d main_arg1 = E m d := Keep.arg1_3 m d
theorem v0_3 : at_ (W3 m) d main_v0 = X m d := Keep.v0_3 m d

theorem list1_eq : list1 (W2 m) d = listArr (X m d) (E m d) 0 (by decide) := by
  refine (arr2 m d 2).trans ((FinFirst.list_eq _ _ _ d).trans ?_)
  rw [arg1_1]; rfl

theorem list3_eq : list3 (W4 m) d = listArr (X m d) (E m d) 16384 le_rfl := by
  refine (arr4 m d 3).trans ((FinLast.list_eq _ _ _ d).trans ?_)
  rw [arg1_3, v0_3]

theorem table_eq : table (W2 m) d = k0_pay5 (F := Ideal) (E m d) := by
  refine (arr2 m d 4).trans ((FinFirst.table_eq _ _ _ d).trans ?_)
  rw [arg1_1]

theorem sum1 : at_ (W3 m) d main_v1_1 = single (half (X m d) (E m d) 0) := by
  refine (keep3 m d main_v1_1 (by decide)).trans ((arr2 m d 3).trans ((FinFirst.sum_eq _ _ _ d).trans ?_))
  rw [arg1_1]; rfl

theorem loss4 : at_ (W4 m) d main_v3_1 = single (scaled (half (X m d) (E m d) 16 + half (X m d) (E m d) 0)) := by
  refine (arr4 m d 4).trans ((FinLast.loss_eq _ _ _ d (half (X m d) (E m d) 0) fun j => ?_).trans ?_)
  · exact congrFun (sum1 m d) j
  · rw [arg1_3, v0_3]

theorem list_lt (x : Vec Ideal S32768x64 .f32) (e : Vec Ideal S1024x64 .f32) (b : ℕ) (hb : b ≤ 16384) (j : S16384.Idx) :
    BitVec.toNat (listArr x e b hb j) < 1024 := by
  rw [listArr, near, toNat_word]; exact Fin.isLt _

/-- Every index of the two lists is a row of the table. -/
theorem preOK : PreOK m :=
  ⟨fun d j => by rw [list1_eq]; exact list_lt _ _ _ _ j, fun d j => by rw [list3_eq]; exact list_lt _ _ _ _ j⟩

end Cert.Proof.Held

end
-- ==== Proof.Run.lean ====
/- The program's run: from any memory whose computed indices are rows of the table, every fair execution of the host's thread
   and the SparseCores' ends, with the TensorCore's memory as the fold of `Vals` says and every counter at zero. -/
module

public import proofs.«01_k».proof.Proof.Vals
public import Idealize.ShloMosaic.Lib.SparseCore.Quiescent

@[expose] public section

set_option maxRecDepth 16384

noncomputable section

namespace Cert.Proof.Run

open Cert.KernelIdeal Cert.KernelIdeal.Gen Cert.Proof.Tile Cert.Proof.Sc Cert.Proof.Reg Cert.Proof.Vals Cert.Proof.Deal Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ
/-- What the host's thread holds between two operations: its memory at `V`, and its place before SparseCore call `n`. -/
def all (n : ℕ) (V : Mem F) (d : Dev nD) : sProp 𝕄 :=
  iprop(boundary (SparseCore.T d) ∗ StableHlo.held (SparseCore.T d) (Pipeline.ucRefs τ sig) (V d) ∗ (∃ r, prngReg d r) ∗ (K (F := F)).tcSt EH d n)

/-- Running a piece of the host's program on device `d`. -/
abbrev runs (d : Dev nD) (x : Prog (TpuEff nD τ sig (Elt F) (SparseCore.Sig (ΛP (F := F)) 2) .tc) PUnit) (Q : PUnit → sProp 𝕄) : sProp 𝕄 :=
  wp frame (wpE ((K (F := F)).defs D) 𝒱 (SparseCore.T d) none) Set.univ x Q

set_option backward.isDefEq.respectTransparency.types false in
/-- An operation of the host's own. -/
theorem host (n : ℕ) (V : Mem F) (d : Dev nD) (op : HloOp τ sig (Elt F)) (hb : op.bufs ⊆ StableHlo.tcRefs τ sig) (hf : op.fresh = ∅) (Q : PUnit → sProp 𝕄) :
    iprop(all n V d ∗ (all n (fun d => op.result (V d)) d -∗ Q ⟨⟩)) ⊢ runs d (hlo rfl op fun _ => .ret ⟨⟩) Q := by
  unfold all
  iintro ⟨⟨Hb, Hh, Hp, Hs⟩, Hk⟩
  iapply (StableHlo.wp_hlo_within 𝒱 (SparseCore.T d) none Set.univ (Pipeline.sub_ucRefs op hb) hf) $$ [Hb Hh]
  · isplitl [Hb]; · iexact Hb
    iexact Hh
  iintro ⟨Hb, Hh⟩
  rw [wp_ret]
  imodintro
  iapply Hk
  isplitl [Hb]; · iexact Hb
  isplitl [Hh]; · iexact Hh
  isplitl [Hp]; · iexact Hp
  iexact Hs

set_option backward.isDefEq.respectTransparency.types false in
/-- A TensorCore call. -/
theorem call (pd : (p : Fin 4) → (c : Dev nD) → Pipeline.Dat τ (Elt F) (HIx 2) ℕ UU ℕ (Pipeline.pin (pcfgs (F := F)) adm p) c)
    (p : Fin 4) (n : ℕ) (V : Mem F) (h : Fits pd p n V) (d : Dev nD) (Q : PUnit → sProp 𝕄) :
    iprop(all n V d ∗ levAts (K (F := F)).L (K (F := F)).lev ∗ Pipeline.cellsGhost (Pipeline.pin (pcfgs (F := F)) adm) EP p d
      ∗ Pipeline.toksInit (Pipeline.pin (pcfgs (F := F)) adm) EP p d ∗ (all n (leaves pd p V) d -∗ Q ⟨⟩))
      ⊢ runs d (Prog.lift (.customCall (SparseCore.inner (Pipeline.entry p)) ())) Q := by
  have hs := step pd p n V h d Q
  refine BI.Entails.trans ?_ hs
  unfold all SparseCore.Cfg.tcSt state debt
  show (_ : sProp 𝕄) ⊢ (_ : sProp 𝕄)
  iintro ⟨⟨Hb, Hh, Hp, Hd, Ht⟩, Hl, Hc, Hi, Hk⟩
  isplitl [Ht Hk]
  · iintro ⟨Hb, Hh, Hp, Hd⟩
    iapply Hk
    isplitl [Hb]; · iexact Hb
    isplitl [Hh]; · iexact Hh
    isplitl [Hp]; · iexact Hp
    isplitl [Hd]; · iexact Hd
    iexact Ht
  isplitl [Hb]; · iexact Hb
  isplitl [Hh Hp Hd]
  · isplitl [Hh]; · iexact Hh
    isplitl [Hp]; · iexact Hp
    iexact Hd
  isplitl [Hl]; · iexact Hl
  isplitl [Hc]; · iexact Hc
  iexact Hi

/-- A buffer of the host's, among those the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread's arrays but three. -/
def others (d : Dev nD) (a b e : Ref sig .tc) (W : Valuation τ sig (Elt F)) : sProp 𝕄 :=
  StableHlo.held (SparseCore.T d) (Pipeline.ucRefs τ sig \ {Proc.devRef .tc a, Proc.devRef .tc b, Proc.devRef .tc e}) W

/-- Three of the thread's arrays apart from the rest. -/
theorem apart (a b e : Ref sig .tc) (hab : a ≠ b) (hae : a ≠ e) (hbe : b ≠ e)
    (ha : ¬ (Proc.devRef .tc a : DevRef τ sig).isScoped) (hb : ¬ (Proc.devRef .tc b : DevRef τ sig).isScoped) (he : ¬ (Proc.devRef .tc e : DevRef τ sig).isScoped)
    (d : Dev nD) (W : Valuation τ sig (Elt F)) :
    (StableHlo.held (SparseCore.T d) (Pipeline.ucRefs τ sig) W : sProp 𝕄)
      = iprop((((SparseCore.T d).loc a ↦{fullShare} W (Proc.devRef .tc a)) ∗ ((SparseCore.T d).loc b ↦{fullShare} W (Proc.devRef .tc b))
          ∗ (SparseCore.T d).loc e ↦{fullShare} W (Proc.devRef .tc e))
        ∗ others d a b e W) := by
  rw [StableHlo.held_sub_split (SparseCore.T d) (T := {Proc.devRef .tc a, Proc.devRef .tc b, Proc.devRef .tc e}) (S := Pipeline.ucRefs τ sig) ?_ W]
  · congr 1
    unfold StableHlo.held
    rw [SparseCore.bigSep_insert' (by simp [devRef_ne hab, devRef_ne hae]), SparseCore.bigSep_insert' (by simp [devRef_ne hbe]), bigSep_singleton]
  · intro x hx
    simp only [Finset.mem_insert, Finset.mem_singleton] at hx
    rcases hx with rfl | rfl | rfl
    · exact mem_uc _ ha
    · exact mem_uc _ hb
    · exact mem_uc _ he

/-- An array overwritten, put back among the rest. -/
theorem together (a b e : Ref sig .tc) (hab : a ≠ b) (hae : a ≠ e) (hbe : b ≠ e)
    (ha : ¬ (Proc.devRef .tc a : DevRef τ sig).isScoped) (hb : ¬ (Proc.devRef .tc b : DevRef τ sig).isScoped) (he : ¬ (Proc.devRef .tc e : DevRef τ sig).isScoped)
    (d : Dev nD) (W : Valuation τ sig (Elt F)) (g : (Proc.devRef .tc e : DevRef τ sig).ty.Contents (Elt F)) :
    (StableHlo.held (SparseCore.T d) (Pipeline.ucRefs τ sig) (Function.update W (Proc.devRef .tc e) g) : sProp 𝕄)
      = iprop((((SparseCore.T d).loc a ↦{fullShare} W (Proc.devRef .tc a)) ∗ ((SparseCore.T d).loc b ↦{fullShare} W (Proc.devRef .tc b))
          ∗ (SparseCore.T d).loc e ↦{fullShare} g)
        ∗ others d a b e W) := by
  rw [apart a b e hab hae hbe ha hb he d, Function.update_of_ne (devRef_ne hae), Function.update_of_ne (devRef_ne hbe), Function.update_self]
  congr 1
  exact StableHlo.held_congr (SparseCore.T d) fun x hx => Function.update_of_ne (fun h => (Finset.mem_sdiff.mp hx).2 (by subst h; simp)) _ _

set_option backward.isDefEq.respectTransparency.types false in
/-- The first SparseCore call. -/
theorem sc1 (A : At F) (κ : GSem nD τ sig → ℕ) (V : Mem F) (d : Dev nD) (he : table V d = A.fe d) (hi : list1 V d = A.i1 d)
    (ho : V d (Proc.devRef .tc main_v2) = A.o1 d) (Q : PUnit → sProp 𝕄) :
    iprop((K (F := F)).ctx EH (P A) κ ∗ all 0 V d ∗ (all 1 (gather1 V) d -∗ Q ⟨⟩)) ⊢ runs d ((K (F := F)).run d 0) Q := by
  have hrun := (K (F := F)).wp_run D 𝒱 (EH := EH) (P := P A) κ d 0 (Φ := Q)
  refine BI.Entails.trans ?_ hrun
  have h0 : (StableHlo.held (SparseCore.T d) (Pipeline.ucRefs τ sig) (V d) : sProp 𝕄)
      = iprop(((eLoc d ↦{fullShare} table V d) ∗ ((SparseCore.T d).loc main_v1_0 ↦{fullShare} list1 V d)
          ∗ (SparseCore.T d).loc main_v2 ↦{fullShare} V d (Proc.devRef .tc main_v2)) ∗ others d main_v1_2 main_v1_0 main_v2 (V d)) :=
    apart main_v1_2 main_v1_0 main_v2 (by decide) (by decide) (by decide) (by decide) (by decide) (by decide) d (V d)
  have h1 : (StableHlo.held (SparseCore.T d) (Pipeline.ucRefs τ sig) (gather1 V d) : sProp 𝕄)
      = iprop(((eLoc d ↦{fullShare} table V d) ∗ ((SparseCore.T d).loc main_v1_0 ↦{fullShare} list1 V d)
          ∗ (SparseCore.T d).loc main_v2 ↦{fullShare} Rows.gOut (table V d) (list1 V d)) ∗ others d main_v1_2 main_v1_0 main_v2 (V d)) :=
    together main_v1_2 main_v1_0 main_v2 (by decide) (by decide) (by decide) (by decide) (by decide) (by decide) d (V d) (Rows.gOut (table V d) (list1 V d))
  have c0 := call1 d (A.fe d) (A.i1 d) (A.o1 d)
  have c1 := call1 d (A.fe d) (A.i1 d) (Rows.gOut (A.fe d) (A.i1 d))
  rw [← he, ← hi, ← ho] at c0
  rw [← he, ← hi] at c1
  unfold all
  rw [h0, h1]
  show (_ : sProp 𝕄) ⊢ (_ : sProp 𝕄)
  iintro ⟨Hx, ⟨Hb, ⟨H3, Hh⟩, Hp, Hs⟩, Hk⟩
  ihave H3' := (Entails.of_eq c0) $$ H3
  icases H3' with ⟨Hr, Ht⟩
  isplitl [Hx]; · iexact Hx
  isplitl [Hs]; · iexact Hs
  isplitl [Ht]
  · iapply (show iprop(bigSep Finset.univ fun c : Fin 2 => bigSep Finset.univ fun i : Fin 16 => task1 d (table V d) (list1 V d) (V d (Proc.devRef .tc main_v2)) c i) ⊢ (bigSep Finset.univ fun c : Fin ((K (F := F)).nCore 0) => (P A).st 0 d c : sProp 𝕄) from
      Entails.of_eq (by rw [he, hi, ho]; rfl))
    iexact Ht
  iintro ⟨Hs, Ht⟩
  iapply Hk
  isplitl [Hb]; · iexact Hb
  isplitl [Hr Ht Hh]
  · isplitr [Hh]
    · iapply (Entails.of_eq c1.symm)
      isplitl [Hr]; · iexact Hr
      iapply (show (bigSep Finset.univ fun c : Fin ((K (F := F)).nCore 0) => (P A).dn 0 d c : sProp 𝕄) ⊢ iprop(bigSep Finset.univ fun c : Fin 2 => bigSep Finset.univ fun i : Fin 16 => task1 d (table V d) (list1 V d) (Rows.gOut (table V d) (list1 V d)) c i) from
        Entails.of_eq (by rw [he, hi]; rfl))
      iexact Ht
    · iexact Hh
  isplitl [Hp]; · iexact Hp
  iexact Hs

set_option backward.isDefEq.respectTransparency.types false in
/-- The second SparseCore call. -/
theorem sc3 (A : At F) (κ : GSem nD τ sig → ℕ) (V : Mem F) (d : Dev nD) (he : table V d = A.fe d) (hi : list3 V d = A.i3 d)
    (ho : V d (Proc.devRef .tc main_v4) = A.o3 d) (Q : PUnit → sProp 𝕄) :
    iprop((K (F := F)).ctx EH (P A) κ ∗ all 1 V d ∗ (all 2 (gather3 V) d -∗ Q ⟨⟩)) ⊢ runs d ((K (F := F)).run d 1) Q := by
  have hrun := (K (F := F)).wp_run D 𝒱 (EH := EH) (P := P A) κ d 1 (Φ := Q)
  refine BI.Entails.trans ?_ hrun
  have h0 : (StableHlo.held (SparseCore.T d) (Pipeline.ucRefs τ sig) (V d) : sProp 𝕄)
      = iprop(((eLoc d ↦{fullShare} table V d) ∗ ((SparseCore.T d).loc main_v3_0 ↦{fullShare} list3 V d)
          ∗ (SparseCore.T d).loc main_v4 ↦{fullShare} V d (Proc.devRef .tc main_v4)) ∗ others d main_v1_2 main_v3_0 main_v4 (V d)) :=
    apart main_v1_2 main_v3_0 main_v4 (by decide) (by decide) (by decide) (by decide) (by decide) (by decide) d (V d)
  have h1 : (StableHlo.held (SparseCore.T d) (Pipeline.ucRefs τ sig) (gather3 V d) : sProp 𝕄)
      = iprop(((eLoc d ↦{fullShare} table V d) ∗ ((SparseCore.T d).loc main_v3_0 ↦{fullShare} list3 V d)
          ∗ (SparseCore.T d).loc main_v4 ↦{fullShare} Rows.gOut (table V d) (list3 V d)) ∗ others d main_v1_2 main_v3_0 main_v4 (V d)) :=
    together main_v1_2 main_v3_0 main_v4 (by decide) (by decide) (by decide) (by decide) (by decide) (by decide) d (V d) (Rows.gOut (table V d) (list3 V d))
  have c0 := call3 d (A.fe d) (A.i3 d) (A.o3 d)
  have c1 := call3 d (A.fe d) (A.i3 d) (Rows.gOut (A.fe d) (A.i3 d))
  rw [← he, ← hi, ← ho] at c0
  rw [← he, ← hi] at c1
  unfold all
  rw [h0, h1]
  show (_ : sProp 𝕄) ⊢ (_ : sProp 𝕄)
  iintro ⟨Hx, ⟨Hb, ⟨H3, Hh⟩, Hp, Hs⟩, Hk⟩
  ihave H3' := (Entails.of_eq c0) $$ H3
  icases H3' with ⟨Hr, Ht⟩
  isplitl [Hx]; · iexact Hx
  isplitl [Hs]; · iexact Hs
  isplitl [Ht]
  · iapply (show iprop(bigSep Finset.univ fun c : Fin 2 => bigSep Finset.univ fun i : Fin 16 => task3 d (table V d) (list3 V d) (V d (Proc.devRef .tc main_v4)) c i) ⊢ (bigSep Finset.univ fun c : Fin ((K (F := F)).nCore 1) => (P A).st 1 d c : sProp 𝕄) from
      Entails.of_eq (by rw [he, hi, ho]; rfl))
    iexact Ht
  iintro ⟨Hs, Ht⟩
  iapply Hk
  isplitl [Hb]; · iexact Hb
  isplitl [Hr Ht Hh]
  · isplitr [Hh]
    · iapply (Entails.of_eq c1.symm)
      isplitl [Hr]; · iexact Hr
      iapply (show (bigSep Finset.univ fun c : Fin ((K (F := F)).nCore 1) => (P A).dn 1 d c : sProp 𝕄) ⊢ iprop(bigSep Finset.univ fun c : Fin 2 => bigSep Finset.univ fun i : Fin 16 => task3 d (table V d) (list3 V d) (Rows.gOut (table V d) (list3 V d)) c i) from
        Entails.of_eq (by rw [he, hi]; rfl))
      iexact Ht
    · iexact Hh
  isplitl [Hp]; · iexact Hp
  iexact Hs

end Cert.Proof.Run

end
-- ==== Proof.Launch.lean ====
/- The launch: the ghost state the threads start with, the host's program through its eleven steps, and the run's end. -/
module

public import proofs.«01_k».proof.Proof.Run

@[expose] public section

set_option maxRecDepth 16384

noncomputable section

namespace Cert.Proof.Launch

open Cert.KernelIdeal Cert.KernelIdeal.Gen Cert.Proof.Tile Cert.Proof.Sc Cert.Proof.Reg Cert.Proof.Vals Cert.Proof.Run Cert.Proof
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The handshakes' cells and the pipelines' at their first round. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- A device's share of the pipelines' ghost state. -/
def G (d : Dev nD) : sProp 𝕄 :=
  iprop((bigSep Finset.univ fun p : Fin 4 => Pipeline.cellsGhost (Pipeline.pin (pcfgs (F := F)) adm) EP p d)
    ∗ bigSep Finset.univ fun p : Fin 4 => Pipeline.toksInit (Pipeline.pin (pcfgs (F := F)) adm) EP p d)

theorem no_extra (A : At F) : (bigSep Finset.univ fun thr : Thread nD τ => bigSep Finset.univ fun q : Fin 2 => (P A).x q thr : sProp 𝕄) = iprop(emp) := by
  rw [show (bigSep Finset.univ fun thr : Thread nD τ => bigSep Finset.univ fun q : Fin 2 => (P A).x q thr : sProp 𝕄) = bigSep Finset.univ fun _ : Thread nD τ => iprop(emp) from
    bigSep_congr fun _ _ => bigSep_emp_const _]
  exact bigSep_emp_const _

theorem hu₀ (A : At F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P A).x q thr) := by
  have hg := Pipeline.fund_ghost (Lvl := ℕ) (Pipeline.pin (pcfgs (F := F)) adm) (EP (F := F)) cellOf_inj
  unfold EP at hg
  unfold u₀ G EP
  rw [no_extra]
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HP, -⟩
  imod hg $$ HP with ⟨Hc, Ht⟩
  imodintro
  isplitl [HH]; · iexact HH
  isplitl [Hc Ht]
  · rw [bigSep_sep']
    isplitl [Hc]; · iexact Hc
    iexact Ht
  iempintro

variable (m : (ℓ : Loc nD τ sig) → Buf (Elt F) ℓ) (ρ : Dev nD → PrngReg)

theorem four {f : Fin 4 → sProp 𝕄} : bigSep Finset.univ f = iprop(f 0 ∗ f 1 ∗ f 2 ∗ f 3) := by
  rw [show (Finset.univ : Finset (Fin 4)) = {0, 1, 2, 3} by decide, SparseCore.bigSep_insert' (by decide), SparseCore.bigSep_insert' (by decide),
    SparseCore.bigSep_insert' (by decide), bigSep_singleton]

/-- What the host's thread keeps at the end: the whole of its memory. -/
def FIN (d : Dev nD) : sProp 𝕄 := StableHlo.held (SparseCore.T d) (Pipeline.ucRefs τ sig) (W11 m d)

set_option backward.isDefEq.respectTransparency.types false in
theorem hmain (κ : GSem nD τ sig → ℕ) (d : Dev nD) :
    iprop((K (F := F)).ctx EH (P (calls m)) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show unscopedBufs d (fun b => m ((SparseCore.T d).loc b)) = (StableHlo.held (SparseCore.T d) (Pipeline.ucRefs τ sig) (W0 m d) : sProp 𝕄)
    from Pipeline.unscopedBufs_held d (W0 m d)]
  unfold G
  rw [four, four]
  simp only [main, wp_bind, wp_pure]
  iintro ⟨#Hctx, Hst, ⟨Hb, Hh, Hts, Hp⟩, ⟨Hc0, Hc1, Hc2, Hc3⟩, Ht0, Ht1, Ht2, Ht3⟩
  ihave #Hlev := (SparseCore.Cfg.ctx_levAts κ) $$ Hctx
  iapply (host 0 (W0 m) d (opIn (F := F)) (StableHlo.reshape_bufs_sub ..) rfl)
  isplitl [Hb Hh Hp Hst]
  · unfold all
    isplitl [Hb]; · iexact Hb
    isplitl [Hh]; · iexact Hh
    isplitl [Hp]; · iexists _; iexact Hp
    iexact Hst
  iintro Ha
  iapply (call (pd m) 0 0 (W1 m) (fits0 m) d)
  isplitl [Ha]; · iexact Ha
  isplitr; · iexact Hlev
  isplitl [Hc0]; · iexact Hc0
  isplitl [Ht0]; · iexact Ht0
  iintro Ha
  iapply (sc1 (calls m) κ (W2 m) d rfl rfl rfl)
  isplitr; · iexact Hctx
  isplitl [Ha]; · iexact Ha
  iintro Ha
  iapply (call (pd m) 1 1 (W3 m) (fits1 m) d)
  isplitl [Ha]; · iexact Ha
  isplitr; · iexact Hlev
  isplitl [Hc1]; · iexact Hc1
  isplitl [Ht1]; · iexact Ht1
  iintro Ha
  iapply (sc3 (calls m) κ (W4 m) d (table4 m d) rfl rfl)
  isplitr; · iexact Hctx
  isplitl [Ha]; · iexact Ha
  iintro Ha
  iapply (call (pd m) 2 2 (W5 m) (fits2 m) d)
  isplitl [Ha]; · iexact Ha
  isplitr; · iexact Hlev
  isplitl [Hc2]; · iexact Hc2
  isplitl [Ht2]; · iexact Ht2
  iintro Ha
  iapply (host 2 (W6 m) d (opCopy (F := F)) (StableHlo.unary_bufs_sub ..) rfl)
  isplitl [Ha]; · iexact Ha
  iintro Ha
  iapply (call (pd m) 3 2 (W7 m) (fits3 m) d)
  isplitl [Ha]; · iexact Ha
  isplitr; · iexact Hlev
  isplitl [Hc3]; · iexact Hc3
  isplitl [Ht3]; · iexact Ht3
  iintro Ha
  iapply (host 2 (W8 m) d (opCat (F := F)) (StableHlo.binary_bufs_sub ..) rfl)
  isplitl [Ha]; · iexact Ha
  iintro Ha
  iapply (host 2 (W9 m) d (opOut (F := F)) (StableHlo.reshape_bufs_sub ..) rfl)
  isplitl [Ha]; · iexact Ha
  iintro Ha
  iapply (host 2 (W10 m) d (opLoss (F := F)) (StableHlo.reshape_bufs_sub ..) rfl)
  isplitl [Ha]; · iexact Ha
  iintro Ha
  ihave Ha' := (show all 2 (fun d => (opLoss (F := F)).result (W10 m d)) d ⊢ iprop(boundary (SparseCore.T d) ∗ FIN m d ∗ (∃ r, prngReg d r) ∗ (K (F := F)).tcSt EH d 2) from .rfl) $$ Ha
  icases Ha' with ⟨Hb, Hh, -, Hst⟩
  imodintro
  isplitl [Hst]; · iexact Hst
  isplitl [Hh]; · iexact Hh
  isplitl [Hb]; · iexact Hb
  iexact Hts

def fq (d : Dev nD) (s' : Phys nD τ sig (Elt F)) : Prop := ∀ b ∈ Pipeline.ucRefs τ sig, s'.mem.mem (d, b) = W11 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((d, b) : Loc nD τ sig)) (W11 m d) s') $$ [Hh HSI]
  · isplitl [Hh] <;> iassumption
  icases H with ⟨%h, -⟩
  ipureintro; exact h

/-- Every fair run of the program ends, at the memory `W11` and with every counter zero. -/
theorem run_main [∀ e, Nonempty (Elt F e)] (hpre : PreOK m) :
    θ_run (defs (F := F)) (threads (F := F)) ⟨m, fun _ => 0, ρ⟩ (fun r => (∀ d, ∀ b ∈ Pipeline.ucRefs τ sig, r.2.mem (d, b) = W11 m d b) ∧ r.2.sem = fun _ => 0) :=
  SparseCore.Cfg.θ_run_sc_quiescent (K := K (F := F)) (D := D (F := F)) (𝒱 := 𝒱) (EH := EH) (P := P (calls m)) (A := ∅) facts v₀
    (fun q hq => match q with | 0 => nomatch hq | 1 => nomatch hq)
    (fun q _ => match q with | 0 => obl1 (calls m) hpre.1 | 1 => obl3 (calls m) hpre.2)
    (fun q _ => SparseCore.Cfg.VecSplit.of_plain (vecSplit (calls m) q))
    m ρ main G (FIN m) (u₀ (F := F)) (sep_elim_left.trans (hu₀ (calls m))) (hmain m ρ) (fq m) (hfin m) _ (fun _ h hz => ⟨h, hz⟩)

end Cert.Proof.Launch

end
-- ==== Proof.RefRun.lean ====
/- The reference's run: its straight line of operations in four stretches, and what the three results hold in terms of the arguments. -/
module

public import proofs.«01_k».proof.Proof.Gen.ReferenceIdeal
public import Idealize.ShloMosaic.Lib.Pipeline.Frame
public import Idealize.ShloMosaic.Lib.StableHlo

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The distances of every vector to every row of the codebook. -/
abbrev opsA : List (HloOp τ sig (Elt F)) :=
  [ reshape main_arg0 main_v0 (rfl : (.f32 : EltTy) = .f32) shapeCasts_S32x1024x64_S32768x64,
    binary main_v0 main_v0 main_v1 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v1 main_cst main_v2 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v2 main_v3 (broadcastInDim S32768x1 ![0] bcast_S32768_S32768x1_0 : (⟨S32768, .f32⟩ : BufTy).Contents (Elt F) → (⟨S32768x1, .f32⟩ : BufTy).Contents (Elt F)),
    nullary main_cst_0 (constant S_ .f32 0x40000000#32),
    unary main_cst_0 main_v4 (broadcastInDim S32768x64 ![] bcast_S_S32768x64 : (⟨S_, .f32⟩ : BufTy).Contents (Elt F) → (⟨S32768x64, .f32⟩ : BufTy).Contents (Elt F)),
    binary main_v4 main_v0 main_v5 (mulf : (⟨S32768x64, .f32⟩ : BufTy).Contents (Elt F) → (⟨S32768x64, .f32⟩ : BufTy).Contents (Elt F) → (⟨S32768x64, .f32⟩ : BufTy).Contents (Elt F)),
    unary main_arg1 main_v6 ((transpose S64x1024 [1, 0] · transposes_S1024x64_S64x1024_1_0) : (⟨S1024x64, .f32⟩ : BufTy).Contents (Elt F) → (⟨S64x1024, .f32⟩ : BufTy).Contents (Elt F)),
    binary main_v5 main_v6 main_v7 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    unary main_v3 main_v8 (broadcastInDim S32768x1024 ![0, 1] bcast_S32768x1_S32768x1024_0_1 : (⟨S32768x1, .f32⟩ : BufTy).Contents (Elt F) → (⟨S32768x1024, .f32⟩ : BufTy).Contents (Elt F)),
    binary main_v8 main_v7 main_v9 (subf : (⟨S32768x1024, .f32⟩ : BufTy).Contents (Elt F) → (⟨S32768x1024, .f32⟩ : BufTy).Contents (Elt F) → (⟨S32768x1024, .f32⟩ : BufTy).Contents (Elt F)),
    binary main_arg1 main_arg1 main_v10 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v10 main_cst_1 main_v11 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v11 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S32768x1024 ![0, 1] bcast_S1x1024_S32768x1024_0_1 : (⟨S1x1024, .f32⟩ : BufTy).Contents (Elt F) → (⟨S32768x1024, .f32⟩ : BufTy).Contents (Elt F)),
    binary main_v9 main_v13 main_v14 (addf : (⟨S32768x1024, .f32⟩ : BufTy).Contents (Elt F) → (⟨S32768x1024, .f32⟩ : BufTy).Contents (Elt F) → (⟨S32768x1024, .f32⟩ : BufTy).Contents (Elt F)) ]

/-- The index of the nearest row. -/
abbrev opsB : List (HloOp τ sig (Elt F)) :=
  [ TRef.nullary main_call0.v0 (iotaInDim S32768x1024 32 1),
    TRef.nullary main_call0.cst (constant S_ .f32 0x7F800000#32),
    TRef.nullary main_call0.c (constantI S_ 32 0#32),
    TRef.quaternary (.of main_v14) main_call0.v0 main_call0.cst main_call0.c main_call0.v1_0 (fun x y u v j => (Host.argReduce reducer_argmin_f32_i32 x y u v reducesTo_S32768x1024_S32768_d1 h_S_ j).1),
    TRef.quaternary (.of main_v14) main_call0.v0 main_call0.cst main_call0.c main_call0.v1_1 (fun x y u v j => (Host.argReduce reducer_argmin_f32_i32 x y u v reducesTo_S32768x1024_S32768_d1 h_S_ j).2) ]

/-- The nearest rows, taken out of the codebook. -/
abbrev opsC : List (HloOp τ sig (Elt F)) :=
  [ TRef.nullary main_call1.c (constantI S_ 32 0#32),
    TRef.unary main_call1.c main_call1.v0 (broadcastInDim S32768 ![] bcast_S_S32768),
    TRef.binary (.of main_v15) main_call1.v0 main_call1.v1 (cmpi .slt),
    TRef.nullary main_call1.c_0 (constantI S_ 32 1024#32),
    TRef.unary main_call1.c_0 main_call1.v2 (broadcastInDim S32768 ![] bcast_S_S32768),
    TRef.binary (.of main_v15) main_call1.v2 main_call1.v3 addi,
    TRef.ternary main_call1.v1 main_call1.v3 (.of main_v15) main_call1.call0.v0 select,
    TRef.unary main_call1.call0.v0 main_call1.v5 (broadcastInDim S32768x1 ![0] bcast_S32768_S32768x1_0),
    TRef.nullary main_call1.c_1 (constantI S1 32 1023#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg1) main_call1.v5 main_call1.v13 (fun x i => Host.gather gather_S1024x64_S32768x1_S32768x64_1_0_n_n_0_1_164 x i),
    TRef.unary main_call1.v12 main_call1.v14 (broadcastInDim S32768x64 ![0] bcast_S32768_S32768x64_0),
    TRef.nullary main_call1.cst (constant S_ .f32 0x7FC00000#32),
    TRef.unary main_call1.cst main_call1.v15 (broadcastInDim S32768x64 ![] bcast_S_S32768x64),
    TRef.ternary main_call1.v14 main_call1.v13 main_call1.v15 main_call1.v16 select ]

/-- The loss and the vectors to pass on. -/
abbrev opsD : List (HloOp τ sig (Elt F)) :=
  [ reshape main_v16 main_v17 (rfl : (.f32 : EltTy) = .f32) shapeCasts_S32768x64_S32x1024x64,
    binary main_v17 main_arg0 main_v18 (subf : (⟨S32x1024x64, .f32⟩ : BufTy).Contents (Elt F) → (⟨S32x1024x64, .f32⟩ : BufTy).Contents (Elt F) → (⟨S32x1024x64, .f32⟩ : BufTy).Contents (Elt F)),
    binary main_v18 main_v18 main_v19 (mulf : (⟨S32x1024x64, .f32⟩ : BufTy).Contents (Elt F) → (⟨S32x1024x64, .f32⟩ : BufTy).Contents (Elt F) → (⟨S32x1024x64, .f32⟩ : BufTy).Contents (Elt F)),
    nullary main_cst_2 (constant S_ .f32 0x00000000#32),
    binary main_v19 main_cst_2 main_v20 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_3 (constant S_ .f32 0x4A000000#32),
    binary main_v20 main_cst_3 main_v21 (Host.divf : (⟨S_, .f32⟩ : BufTy).Contents (Elt F) → (⟨S_, .f32⟩ : BufTy).Contents (Elt F) → (⟨S_, .f32⟩ : BufTy).Contents (Elt F)),
    binary main_v17 main_arg0 main_v22 (subf : (⟨S32x1024x64, .f32⟩ : BufTy).Contents (Elt F) → (⟨S32x1024x64, .f32⟩ : BufTy).Contents (Elt F) → (⟨S32x1024x64, .f32⟩ : BufTy).Contents (Elt F)),
    binary main_v22 main_v22 main_v23 (mulf : (⟨S32x1024x64, .f32⟩ : BufTy).Contents (Elt F) → (⟨S32x1024x64, .f32⟩ : BufTy).Contents (Elt F) → (⟨S32x1024x64, .f32⟩ : BufTy).Contents (Elt F)),
    nullary main_cst_4 (constant S_ .f32 0x00000000#32),
    binary main_v23 main_cst_4 main_v24 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_5 (constant S_ .f32 0x4A000000#32),
    binary main_v24 main_cst_5 main_v25 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v21 main_v26 (mulf : (⟨S_, .f32⟩ : BufTy).Contents (Elt F) → (⟨S_, .f32⟩ : BufTy).Contents (Elt F) → (⟨S_, .f32⟩ : BufTy).Contents (Elt F)),
    binary main_v25 main_v26 main_v27 (addf : (⟨S_, .f32⟩ : BufTy).Contents (Elt F) → (⟨S_, .f32⟩ : BufTy).Contents (Elt F) → (⟨S_, .f32⟩ : BufTy).Contents (Elt F)),
    binary main_v17 main_arg0 main_v28 (subf : (⟨S32x1024x64, .f32⟩ : BufTy).Contents (Elt F) → (⟨S32x1024x64, .f32⟩ : BufTy).Contents (Elt F) → (⟨S32x1024x64, .f32⟩ : BufTy).Contents (Elt F)),
    binary main_arg0 main_v28 main_v29 (addf : (⟨S32x1024x64, .f32⟩ : BufTy).Contents (Elt F) → (⟨S32x1024x64, .f32⟩ : BufTy).Contents (Elt F) → (⟨S32x1024x64, .f32⟩ : BufTy).Contents (Elt F)) ]

/-- The whole line. -/
abbrev ops : List (HloOp τ sig (Elt F)) := opsA ++ (opsB ++ (opsC ++ opsD))

set_option maxRecDepth 4096 in
theorem main_eq (c : Dev nD) : main (F := F) c = seq ops := by
  simp only [main, fn_argmin.body, fn_take.body, fn_where.body, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem subA : (opsA : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem subB : (opsB : List (HloOp τ sig (Elt F))).Forall fun op => op.bufs ⊆ tcRefs τ sig :=
  ⟨nullary_bufs_sub .., nullary_bufs_sub .., nullary_bufs_sub .., quaternary_bufs_sub .., quaternary_bufs_sub ..⟩

theorem subC : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem subD : (opsD : List (HloOp τ sig (Elt F))).Forall fun op => op.bufs ⊆ tcRefs τ sig :=
  ⟨reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

theorem sub : (ops : List (HloOp τ sig (Elt F))).Forall fun op => op.bufs ⊆ tcRefs τ sig := by
  rw [List.forall_append, List.forall_append, List.forall_append]
  exact ⟨subA, subB, subC, subD⟩

/-- Every fair run of the reference ends, at the line's fold over the launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => sub) m ρ

/-- The vectors, one to a row. -/
def flat (x : S32x1024x64.Idx → F .f32) : S32768x64.Idx → F .f32 := shapeCast S32768x64 x shapeCasts_S32x1024x64_S32768x64

/-- The squared distances. -/
def dists (x : S32x1024x64.Idx → F .f32) (e : S1024x64.Idx → F .f32) : S32768x1024.Idx → F .f32 :=
  addf (subf (broadcastInDim S32768x1024 ![0, 1] bcast_S32768x1_S32768x1024_0_1 (broadcastInDim S32768x1 ![0] bcast_S32768_S32768x1_0
        (Host.reduceAdd (mulf (flat x) (flat x)) (constant S_ .f32 0x00000000#32) reducesTo_S32768x64_S32768_d1 h_S_)))
      (Host.dotGeneral dot_S32768x64_S64x1024_S32768x1024_1_0_0_1_n_n none
        (mulf (broadcastInDim S32768x64 ![] bcast_S_S32768x64 (constant S_ .f32 0x40000000#32)) (flat x))
        (transpose S64x1024 [1, 0] e transposes_S1024x64_S64x1024_1_0)))
    (broadcastInDim S32768x1024 ![0, 1] bcast_S1x1024_S32768x1024_0_1 (broadcastInDim S1x1024 ![1] bcast_S1024_S1x1024_1
      (Host.reduceAdd (mulf e e) (constant S_ .f32 0x00000000#32) reducesTo_S1024x64_S1024_d1 h_S_)))

/-- The second parts of the pairs that a search along an axis ends with. -/
def secondOf {s t u : Shape} {axes : List (Fin s.rank)} (step : F .f32 × BitVec 32 → F .f32 × BitVec 32 → F .f32 × BitVec 32) (x : s.Idx → F .f32)
    (y : s.Idx → BitVec 32) (a : u.Idx → F .f32) (b : u.Idx → BitVec 32) (h : s.ReducesTo axes t) (hu : 0 < u.numel) : t.Idx → BitVec 32 :=
  fun j => (Host.argReduce (φ := .f32) step x y a b h hu j).2

/-- The nearest row of each vector. -/
def nearest (d : S32768x1024.Idx → F .f32) : S32768.Idx → BitVec 32 :=
  secondOf reducer_argmin_f32_i32 d (iotaInDim S32768x1024 32 1) (constant S_ .f32 0x7F800000#32) (constantI S_ 32 0#32)
    reducesTo_S32768x1024_S32768_d1 h_S_

/-- The row numbers as `take` reads them: a negative one counts from the end. -/
def wrapped (i : S32768.Idx → BitVec 32) : S32768x1.Idx → BitVec 32 :=
  broadcastInDim S32768x1 ![0] bcast_S32768_S32768x1_0 (select (cmpi .slt i (broadcastInDim S32768 ![] bcast_S_S32768 (constantI S_ 32 0#32)))
    (addi i (broadcastInDim S32768 ![] bcast_S_S32768 (constantI S_ 32 1024#32))) i)

/-- Which of them are rows. -/
def inside (w : S32768x1.Idx → BitVec 32) : S32768.Idx → BitVec 1 :=
  Host.reduce IntOp.andi (andi (cmpi .sge w (broadcastInDim S32768x1 ![] bcast_S_S32768x1 (constantI S_ 32 0#32)))
    (cmpi .sle w (broadcastInDim S32768x1 ![0, 1] bcast_S1x1_S32768x1_0_1 (broadcastInDim S1x1 ![1] bcast_S1_S1x1_1 (constantI S1 32 1023#32)))))
    (constantI S_ 1 1#1) reducesTo_S32768x1_S32768_d1 h_S_

/-- The rows taken. -/
def taken (e : S1024x64.Idx → F .f32) (i : S32768.Idx → BitVec 32) : S32768x64.Idx → F .f32 :=
  select (broadcastInDim S32768x64 ![0] bcast_S32768_S32768x64_0 (inside (wrapped i)))
    (Host.gather gather_S1024x64_S32768x1_S32768x64_1_0_n_n_0_1_164 e (wrapped i))
    (broadcastInDim S32768x64 ![] bcast_S_S32768x64 (constant S_ .f32 0x7FC00000#32))

/-- The rows taken, in the vectors' shape. -/
def shaped (t : S32768x64.Idx → F .f32) : S32x1024x64.Idx → F .f32 := shapeCast S32x1024x64 t shapeCasts_S32768x64_S32x1024x64

/-- The mean squared difference. -/
def mean (q x : S32x1024x64.Idx → F .f32) : S_.Idx → F .f32 :=
  Host.divf (Host.reduceAdd (mulf (subf q x) (subf q x)) (constant S_ .f32 0x00000000#32) reducesTo_S32x1024x64_S_d0_1_2 h_S_) (constant S_ .f32 0x4A000000#32)

def loss (q x : S32x1024x64.Idx → F .f32) : S_.Idx → F .f32 := addf (mean q x) (mulf (constant S_ .f32 0x3E800000#32) (mean q x))

def passed (q x : S32x1024x64.Idx → F .f32) : S32x1024x64.Idx → F .f32 := addf x (subf q x)

theorem atA (V : Valuation τ sig (Elt F)) : after opsA V (main_v14 : DevRef τ sig) = dists (V (main_arg0 : DevRef τ sig)) (V (main_arg1 : DevRef τ sig)) := by
  after_results_simp
  rfl

theorem atB (V : Valuation τ sig (Elt F)) : after opsB V (main_v15 : DevRef τ sig) = nearest (V (main_v14 : DevRef τ sig)) := by
  after_results_simp
  rfl

attribute [local irreducible] Host.reduce Host.gather broadcastInDim select cmpi andi addi in
theorem atC (V : Valuation τ sig (Elt F)) : after opsC V (main_v16 : DevRef τ sig) = taken (V (main_arg1 : DevRef τ sig)) (V (main_v15 : DevRef τ sig)) := by
  after_results_simp
  unfold taken inside wrapped
  rfl

theorem atD_loss (V : Valuation τ sig (Elt F)) : after opsD V (main_v27 : DevRef τ sig) = loss (shaped (V (main_v16 : DevRef τ sig))) (V (main_arg0 : DevRef τ sig)) := by
  after_results_simp
  rfl

theorem atD_out (V : Valuation τ sig (Elt F)) : after opsD V (main_v29 : DevRef τ sig) = passed (shaped (V (main_v16 : DevRef τ sig))) (V (main_arg0 : DevRef τ sig)) := by
  after_results_simp
  rfl

theorem keepA_arg0 (V : Valuation τ sig (Elt F)) : after opsA V (main_arg0 : DevRef τ sig) = V (main_arg0 : DevRef τ sig) := by
  simp only [after_cons, after_nil]
  rfl

theorem keepA_arg1 (V : Valuation τ sig (Elt F)) : after opsA V (main_arg1 : DevRef τ sig) = V (main_arg1 : DevRef τ sig) := by
  simp only [after_cons, after_nil]
  rfl

theorem keepB_arg0 (V : Valuation τ sig (Elt F)) : after opsB V (main_arg0 : DevRef τ sig) = V (main_arg0 : DevRef τ sig) := by
  simp only [after_cons, after_nil]
  rfl

theorem keepB_arg1 (V : Valuation τ sig (Elt F)) : after opsB V (main_arg1 : DevRef τ sig) = V (main_arg1 : DevRef τ sig) := by
  simp only [after_cons, after_nil]
  rfl

theorem keepC_arg0 (V : Valuation τ sig (Elt F)) : after opsC V (main_arg0 : DevRef τ sig) = V (main_arg0 : DevRef τ sig) := by
  simp only [after_cons, after_nil]
  rfl

theorem keepC_arg1 (V : Valuation τ sig (Elt F)) : after opsC V (main_arg1 : DevRef τ sig) = V (main_arg1 : DevRef τ sig) := by
  simp only [after_cons, after_nil]
  rfl

theorem keepC_v15 (V : Valuation τ sig (Elt F)) : after opsC V (main_v15 : DevRef τ sig) = V (main_v15 : DevRef τ sig) := by
  simp only [after_cons, after_nil]
  rfl

theorem keepD_arg0 (V : Valuation τ sig (Elt F)) : after opsD V (main_arg0 : DevRef τ sig) = V (main_arg0 : DevRef τ sig) := by
  simp only [after_cons, after_nil]
  rfl

theorem keepD_arg1 (V : Valuation τ sig (Elt F)) : after opsD V (main_arg1 : DevRef τ sig) = V (main_arg1 : DevRef τ sig) := by
  simp only [after_cons, after_nil]
  rfl

theorem keepD_v15 (V : Valuation τ sig (Elt F)) : after opsD V (main_v15 : DevRef τ sig) = V (main_v15 : DevRef τ sig) := by
  simp only [after_cons, after_nil]
  rfl

/-- The index result. -/
def idxOf (x : S32x1024x64.Idx → F .f32) (e : S1024x64.Idx → F .f32) := nearest (dists x e)
/-- The rows the other two results are made of. -/
def qOf (x : S32x1024x64.Idx → F .f32) (e : S1024x64.Idx → F .f32) := shaped (taken e (idxOf x e))

theorem end_arg0 (V : Valuation τ sig (Elt F)) : after ops V (main_arg0 : DevRef τ sig) = V (main_arg0 : DevRef τ sig) := by
  rw [after_append, after_append, after_append, keepD_arg0, keepC_arg0, keepB_arg0, keepA_arg0]
theorem end_arg1 (V : Valuation τ sig (Elt F)) : after ops V (main_arg1 : DevRef τ sig) = V (main_arg1 : DevRef τ sig) := by
  rw [after_append, after_append, after_append, keepD_arg1, keepC_arg1, keepB_arg1, keepA_arg1]
theorem end_idx (V : Valuation τ sig (Elt F)) : after ops V (main_v15 : DevRef τ sig) = idxOf (V (main_arg0 : DevRef τ sig)) (V (main_arg1 : DevRef τ sig)) := by
  rw [after_append, after_append, after_append, keepD_v15, keepC_v15, atB, atA]; rfl
theorem end_loss (V : Valuation τ sig (Elt F)) :
    after ops V (main_v27 : DevRef τ sig) = loss (qOf (V (main_arg0 : DevRef τ sig)) (V (main_arg1 : DevRef τ sig))) (V (main_arg0 : DevRef τ sig)) := by
  rw [after_append, after_append, after_append, atD_loss, atC, atB, atA, keepC_arg0, keepB_arg0, keepA_arg0, keepB_arg1, keepA_arg1]; rfl
theorem end_out (V : Valuation τ sig (Elt F)) :
    after ops V (main_v29 : DevRef τ sig) = passed (qOf (V (main_arg0 : DevRef τ sig)) (V (main_arg1 : DevRef τ sig))) (V (main_arg0 : DevRef τ sig)) := by
  rw [after_append, after_append, after_append, atD_out, atC, atB, atA, keepC_arg0, keepB_arg0, keepA_arg0, keepB_arg1, keepA_arg1]; rfl

end Cert.Proof.RefRun

end
-- ==== Proof.Quiet.lean ====
/- Both programs run, leave their arguments as they were and end with every semaphore at zero. -/
module

public import proofs.«01_k».proof.Proof.Held
public import proofs.«01_k».proof.Proof.Launch
public import proofs.«01_k».proof.Proof.RefRun

@[expose] public section

set_option maxRecDepth 16384

noncomputable section

namespace Cert.Proof.Quiet

open Idealize.ShloMosaic Idealize.ShloMosaic.TcCoe Idealize.SL.Sem

/-- The kernel's run: every array at the end, the arguments among them, and the semaphores. -/
theorem kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r =>
      (∀ (c : Dev Cert.KernelIdeal.nD) (b : Ref Cert.KernelIdeal.sig .tc), ¬ (Proc.devRef (τ := Cert.KernelIdeal.τ) .tc b).isScoped →
        r.2.mem ((c.tc : Thread Cert.KernelIdeal.nD Cert.KernelIdeal.τ).loc b) = Vals.at_ (Vals.W11 m) c b) ∧ r.2.sem = fun _ => 0) :=
  θ_run_mono (Launch.run_main m g (Held.preOK m)) fun r h => ⟨fun c b hb => h.1 c _ (Run.mem_uc b hb), h.2⟩

theorem kernel_quiet (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (kernel m g) fun r h => ⟨fun c => ⟨(h.1 c _ (by decide)).trans (Keep.arg0_11 m c), (h.1 c _ (by decide)).trans (Keep.arg1_11 m c)⟩, h.2⟩

theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (RefRun.run_main m g) fun r h =>
    ⟨fun c => ⟨(h c _).trans (RefRun.end_arg0 _), (h c _).trans (RefRun.end_arg1 _)⟩, sem_eq_zero_of_no_sems (by decide) r.2⟩

end Cert.Proof.Quiet

end
-- ==== Proof.Finite.lean ====
/- What the precondition says: every element of both arguments is a real number. -/
module

public import proofs.«01_k».proof.Proof.Gen.Pre_finite_inputs
public import proofs.«01_k».proof.Proof.Pay
public import Idealize.ShloMosaic.Lib.Affine
public import Idealize.ShloMosaic.Lib.Pointwise
public import Idealize.ShloMosaic.Lib.ReduceAll

@[expose] public section

noncomputable section

namespace Cert.Proof.Finite

open Cert.Pre_finite_inputs Cert.Pre_finite_inputs.Gen Cert.Proof
open Idealize.ShloMosaic

instance : Subsingleton S_.Idx := ⟨fun a b => funext fun i => i.elim0⟩

/-- An extended real whose absolute value is below infinity is a real number. -/
theorem real_of_lt (x : EReal) (h : BitVec.ofBool (decide (max x (-x) < ⊤)) = 1#1) : ∃ r : ℝ, x = (r : EReal) := by
  have h' : max x (-x) < ⊤ := by
    by_contra hn
    rw [decide_eq_false hn] at h
    exact absurd h (by decide)
  rw [max_lt_iff] at h'
  refine ⟨x.toReal, (EReal.coe_toReal h'.1.ne ?_).symm⟩
  rintro rfl
  simp at h'

theorem real_args (x : FVec Ideal S32x1024x64 .f32) (e : FVec Ideal S1024x64 .f32) (h : fn (F := Ideal) x e = fun _ => 1#1) :
    (∀ i, ∃ r : ℝ, x i = (r : EReal)) ∧ ∀ i, ∃ r : ℝ, e i = (r : EReal) := by
  have h0 := congrFun h (fun i => i.elim0)
  obtain ⟨h1, h2⟩ := IntOp.andi_eq_one.1 h0
  constructor
  · intro i
    have := Host.reduce_andi_all _ _ _ _ _ h1 i
    refine real_of_lt _ ?_
    rw [← Pay.top_word]
    exact this
  · intro i
    have := Host.reduce_andi_all _ _ _ _ _ h2 i
    refine real_of_lt _ ?_
    rw [← Pay.top_word]
    exact this

end Cert.Proof.Finite

end
-- ==== Proof.FinSt.lean ====
/- The result array of the two straight-through calls, in closed form over the extended reals: each row of the input moved by its
   distance to the gathered code. -/
module

public import proofs.«01_k».proof.Proof.St
public import proofs.«01_k».proof.Proof.FinFirst
public import Idealize.ShloMosaic.Lib.Pipeline.ValueKit

@[expose] public section

set_option maxRecDepth 16384

noncomputable section

namespace Cert.Proof.FinSt

open Cert.KernelIdeal Cert.KernelIdeal.Gen Cert.Proof Cert.Proof.Best Cert.Proof.Pay Cert.Proof.FinFirst
open Idealize.ShloMosaic Idealize.ShloMosaic.TcCoe
open Idealize.ShloMosaic.SparseCore.Cfg (HIx)
open Idealize.ShloMosaic.Pipeline (Dat)

/-- A row's nearest code. -/
def code (X : Vec Ideal S32768x64 .f32) (e : Vec Ideal S1024x64 .f32) (n : Fin 32768) (k : Fin 64) : EReal := e (ix2 (best (far X e n)) k)
/-- The input moved by its distance to the nearest code. -/
def moved (X : Vec Ideal S32768x64 .f32) (e : Vec Ideal S1024x64 .f32) : Vec Ideal S32768x64 .f32 := fun i =>
  X i + (code X e (i 0) (i 1) - X i)
/-- The first half of the rows moved, the others from `w`. -/
def movedFirst (X : Vec Ideal S32768x64 .f32) (e : Vec Ideal S1024x64 .f32) (w : Vec Ideal S32768x64 .f32) : Vec Ideal S32768x64 .f32 := fun i =>
  if (i 0).val < 16384 then moved X e i else w i

/-- The gathered rows are the codes of the rows from `b` on. -/
def Gathered (X : Vec Ideal S32768x64 .f32) (e : Vec Ideal S1024x64 .f32) (b : ℕ) (q : Vec Ideal S16384x128 .f32) : Prop :=
  ∀ (r : Fin 16384) (k : Fin 64) (h : b + r.val < 32768), q (ix2 r ⟨k.val, by omega⟩) = code X e ⟨b + r.val, h⟩ k

theorem cols_apply (q : Vec Ideal S4096x128 .f32) (r : Fin 4096) (k : Fin 64) :
    (View.ld q St.cols : Vec Ideal S4096x64 .f32) (ix2 r k) = q (ix2 r ⟨k.val, by omega⟩) := by
  pointwise

theorem out4_apply (z : Vec Ideal S4096x64 .f32) (q : Vec Ideal S4096x128 .f32) (r : Fin 4096) (k : Fin 64) :
    St.out4 z q (ix2 r k) = z (ix2 r k) + (q (ix2 r ⟨k.val, by omega⟩) - z (ix2 r k)) := by
  rw [St.out4, through4, cols_apply]

theorem out5_apply (z : Vec Ideal S4096x64 .f32) (q : Vec Ideal S4096x128 .f32) (r : Fin 4096) (k : Fin 64) :
    St.out5 z q (ix2 r k) = z (ix2 r k) + (q (ix2 r ⟨k.val, by omega⟩) - z (ix2 r k)) := by
  rw [St.out5, through5, cols_apply]

variable (V : (c : Dev nD) → (b : Ref sig .tc) → Buf (Elt Ideal) ((c : Thread nD τ).loc b)) (O : Dev nD → CellTallies nD τ sig (HIx 2)) (B : Set (SemLoc sig × HIx 2)) (c : Dev nD)

theorem idx4 : ∀ t : Fin cfg4.N, win4_0.index t = ![t.val, 0] ∧ win4_1.index t = ![t.val, 0] ∧ win4_2.index t = ![t.val, 0] :=
  (by decide +kernel : ∀ t : Fin grid4.N, _)
theorem idx5 : ∀ t : Fin cfg5.N, win5_0.index t = ![4 + t.val, 0] ∧ win5_1.index t = ![t.val, 0] ∧ win5_2.index t = ![4 + t.val, 0] :=
  (by decide +kernel : ∀ t : Fin grid5.N, _)

theorem z4 (t : Fin cfg4.N) (r : Fin 4096) (k : Fin 64) (h : t.val * 4096 + r.val < 32768) :
    (St.blk4 V c 0 t : Vec Ideal S4096x64 .f32) (ix2 r k) = (V c main_v0 : Vec Ideal S32768x64 .f32) (ix2 ⟨t.val * 4096 + r.val, h⟩ k) := by
  blk_ext [St.blk4, idx4 t]
theorem q4 (t : Fin cfg4.N) (r : Fin 4096) (k : Fin 128) (h : t.val * 4096 + r.val < 16384) :
    (St.blk4 V c 1 t : Vec Ideal S4096x128 .f32) (ix2 r k) = (V c main_v2 : Vec Ideal S16384x128 .f32) (ix2 ⟨t.val * 4096 + r.val, h⟩ k) := by
  blk_ext [St.blk4, idx4 t]
theorem z5 (t : Fin cfg5.N) (r : Fin 4096) (k : Fin 64) (h : (4 + t.val) * 4096 + r.val < 32768) :
    (St.blk5 V c 0 t : Vec Ideal S4096x64 .f32) (ix2 r k) = (V c main_v0 : Vec Ideal S32768x64 .f32) (ix2 ⟨(4 + t.val) * 4096 + r.val, h⟩ k) := by
  blk_ext [St.blk5, idx5 t]
theorem q5 (t : Fin cfg5.N) (r : Fin 4096) (k : Fin 128) (h : t.val * 4096 + r.val < 16384) :
    (St.blk5 V c 1 t : Vec Ideal S4096x128 .f32) (ix2 r k) = (V c main_v4 : Vec Ideal S16384x128 .f32) (ix2 ⟨t.val * 4096 + r.val, h⟩ k) := by
  blk_ext [St.blk5, idx5 t]

theorem point4 (e : Vec Ideal S1024x64 .f32) (hq : Gathered (V c main_v0) e 0 (V c main_v2)) (t : Fin cfg4.N) (y : S4096x64.Idx) (i : S32768x64.Idx)
    (h0 : (i 0).val = t.val * 4096 + (y 0).val) (h1 : (i 1).val = (y 1).val) :
    St.out4 (F := Ideal) (St.blk4 V c 0 t) (St.blk4 V c 1 t) y = moved (V c main_v0) e i := by
  have ht : t.val < 4 := t.isLt
  obtain ⟨r, k, rfl⟩ : ∃ (r : Fin 4096) (k : Fin 64), y = ix2 r k := ⟨y 0, y 1, eq_ix2 y⟩
  have hr : t.val * 4096 + r.val < 16384 := by have := r.isLt; omega
  have hn : t.val * 4096 + r.val < 32768 := by omega
  obtain rfl : i = ix2 ⟨t.val * 4096 + r.val, hn⟩ k := by
    rw [eq_ix2 i]
    congr 1
    · exact Fin.ext h0
    · exact Fin.ext h1
  rw [out4_apply, z4 V c t r k (by omega), q4 V c t r _ hr, hq ⟨t.val * 4096 + r.val, hr⟩ k (by show 0 + (t.val * 4096 + r.val) < 32768; omega), moved]
  congr 3
  exact Fin.ext (Nat.zero_add _)

theorem point5 (e : Vec Ideal S1024x64 .f32) (hq : Gathered (V c main_v0) e 16384 (V c main_v4)) (t : Fin cfg5.N) (y : S4096x64.Idx) (i : S32768x64.Idx)
    (h0 : (i 0).val = (4 + t.val) * 4096 + (y 0).val) (h1 : (i 1).val = (y 1).val) :
    St.out5 (F := Ideal) (St.blk5 V c 0 t) (St.blk5 V c 1 t) y = moved (V c main_v0) e i := by
  have ht : t.val < 4 := t.isLt
  obtain ⟨r, k, rfl⟩ : ∃ (r : Fin 4096) (k : Fin 64), y = ix2 r k := ⟨y 0, y 1, eq_ix2 y⟩
  have hr : t.val * 4096 + r.val < 16384 := by have := r.isLt; omega
  have hn : (4 + t.val) * 4096 + r.val < 32768 := by omega
  obtain rfl : i = ix2 ⟨(4 + t.val) * 4096 + r.val, hn⟩ k := by
    rw [eq_ix2 i]
    congr 1
    · exact Fin.ext h0
    · exact Fin.ext h1
  rw [out5_apply, z5 V c t r k (by omega), q5 V c t r _ hr, hq ⟨t.val * 4096 + r.val, hr⟩ k (by show 16384 + (t.val * 4096 + r.val) < 32768; omega), moved]
  congr 3
  exact Fin.ext (by show 16384 + (t.val * 4096 + r.val) = (4 + t.val) * 4096 + r.val; omega)

/-- The first half's rows. -/
theorem first_eq (e : Vec Ideal S1024x64 .f32) (hq : Gathered (V c main_v0) e 0 (V c main_v2)) (i : S32768x64.Idx) (hi : (i 0).val < 16384) :
    (St.dat4 V O B c).arrAt 2 cfg4.N i = moved (V c main_v0) e i := by
  refine ((St.dat4 V O B c).arrAt_apply_of_coversWhere 2 (moved (V c main_v0) e) (P := fun i : S32768x64.Idx => (i 0).val < 16384) (fun β => β (0 : Fin 2) < 4) (by decide +kernel) (fun t hf y => ?_)
    (fun j => by blk_simp [Pipeline.Window.cell_apply]; omega) i).trans (if_pos hi)
  blk_simp
  rw [St.dat4_2]
  refine point4 V c e hq t y _ ?_ ?_ <;> blk_simp [idx4 t]

/-- The second half's rows, over the first half's. -/
theorem last_eq (e : Vec Ideal S1024x64 .f32) (hq : Gathered (V c main_v0) e 16384 (V c main_v4))
    (hp : ∀ i : S32768x64.Idx, (i 0).val < 16384 → (V c main_v6 : Vec Ideal S32768x64 .f32) i = moved (V c main_v0) e i) :
    (St.dat5 V O B c).arrAt 2 cfg5.N = moved (V c main_v0) e := by
  funext i
  refine ((St.dat5 V O B c).arrAt_apply_of_coversWhere 2 (moved (V c main_v0) e) (P := fun i : S32768x64.Idx => 16384 ≤ (i 0).val) (fun β => 4 ≤ β (0 : Fin 2)) (by decide +kernel) (fun t hf y => ?_)
    (fun j => by blk_simp [Pipeline.Window.cell_apply]; omega) i).trans ?_
  · blk_simp
    rw [St.dat5_2]
    refine point5 V c e hq t y _ ?_ ?_ <;> blk_simp [idx5 t]
  · split
    · rfl
    · rename_i h
      exact hp i (not_le.1 h)

end Cert.Proof.FinSt

end
-- ==== Proof.RefVals.lean ====
/- What the reference computes over the extended reals: the distances, the nearest code of each row. -/
module

public import proofs.«01_k».proof.Proof.RefRun
public import proofs.«01_k».proof.Proof.FinSt
public import Idealize.ShloMosaic.Lib.Pointwise
public import Idealize.ShloMosaic.Lib.ReduceAll

@[expose] public section

set_option maxRecDepth 16384

noncomputable section

namespace Cert.Proof.RefVals

open Cert.ReferenceIdeal Cert.ReferenceIdeal.Gen Cert.Proof Cert.Proof.Best Cert.Proof.Pay Cert.Proof.FinFirst
open Idealize.ShloMosaic

theorem dists_apply (x : FVec Ideal S32x1024x64 .f32) (e : FVec Ideal S1024x64 .f32) (n : Fin 32768) (k : Fin 1024) :
    RefRun.dists (F := Ideal) x e (ix2 n k) = ((∑ c : Fin 64, RefRun.flat (F := Ideal) x (ix2 n c) * RefRun.flat (F := Ideal) x (ix2 n c))
      - ∑ c : Fin 64, (2 * RefRun.flat (F := Ideal) x (ix2 n c)) * e (ix2 k c)) + ∑ c : Fin 64, e (ix2 k c) * e (ix2 k c) := by
  pointwise [RefRun.dists]
  rw [show Ideal.ofBits .f32 1073741824#32 = 2 from two_word]

/-- The step of the search, as a choice. -/
theorem step_eq (a b : EReal) (i j : BitVec 32) : reducer_argmin_f32_i32 (F := Ideal) (a, i) (b, j) = if a < b ∨ a = b ∧ i.toInt < j.toInt then (a, i) else (b, j) := by
  unfold reducer_argmin_f32_i32
  have e1 : FloatOps.cmpf (F := Ideal) (φ := .f32) .olt a b = BitVec.ofBool (decide (a < b)) := rfl
  have e2 : FloatOps.cmpf (F := Ideal) (φ := .f32) .oeq a b = BitVec.ofBool (decide (a = b)) := rfl
  have e3 : FloatOps.cmpf (F := Ideal) (φ := .f32) .une a a = 0#1 := by
    show BitVec.ofBool (decide (a ≠ a)) = 0#1
    simp
  have e4 : IntOp.cmpi .slt i j = BitVec.ofBool (decide (i.toInt < j.toInt)) := rfl
  simp only [e1, e2, e3, e4]
  by_cases h1 : a < b <;> by_cases h2 : a = b <;> by_cases h3 : i.toInt < j.toInt <;> simp [h1, h2, h3, IntOp.ori, IntOp.andi, Scalar.select]

/-- The step that the search for the smallest distance repeats keeps the pair that comes first. -/
theorem picks_first : Picks (reducer_argmin_f32_i32 (F := Ideal)) := by
  have h : ∀ a b : Pair, reducer_argmin_f32_i32 (F := Ideal) a b = if a.1 < b.1 ∨ a.1 = b.1 ∧ a.2.toInt < b.2.toInt then a else b :=
    fun a b => step_eq a.1 b.1 a.2 b.2
  refine ⟨fun a b => ?_, fun a b => ?_, fun a b => ?_⟩ <;> rw [h]
  · split
    · exact Or.inl rfl
    · exact Or.inr rfl
  · split
    · exact Before.refl a
    · rename_i hn
      rw [not_or, not_and, not_lt] at hn
      rcases lt_or_eq_of_le hn.1 with h' | h'
      · exact Or.inl h'
      · exact Or.inr ⟨h', not_lt.1 (hn.2 h'.symm)⟩
  · split
    · rename_i hn
      exact hn.imp id fun h' => ⟨h'.1, h'.2.le⟩
    · exact Before.refl b

/-- The pairs that a search along an axis goes through at `j`: those of the places that reduce into `j`. -/
theorem mem_fiber {s t : Shape} {axes : List (Fin s.rank)} (x : s.Idx → EReal) (y : s.Idx → BitVec 32) (h : s.ReducesTo axes t) (j : t.Idx)
    (p : Pair) : p ∈ Host.argReduceFiber x y h j ↔ ∃ i, h.drop i = j ∧ p = (x i, y i) := by
  rw [Host.argReduceFiber, List.mem_map]
  constructor
  · rintro ⟨n, hn, rfl⟩
    rw [List.mem_filter, decide_eq_true_eq] at hn
    exact ⟨_, hn.2, rfl⟩
  · rintro ⟨i, hi, rfl⟩
    refine ⟨s.rowMajor i, List.mem_filter.2 ⟨List.mem_finRange _, ?_⟩, ?_⟩
    · rw [decide_eq_true_eq, Equiv.symm_apply_apply]; exact hi
    · rw [Equiv.symm_apply_apply]

/-- A search along the rows of an array of `N` rows of 1024 distances. -/
theorem search {N : ℕ} {u : Shape} (f : (⟨2, ![N, 1024]⟩ : Shape).Idx → EReal) (a : u.Idx → EReal) (b : u.Idx → BitVec 32) (ha : ∀ i, a i = ⊤) (hb : ∀ i, b i = 0#32)
    (h : (⟨2, ![N, 1024]⟩ : Shape).ReducesTo [1] ⟨1, ![N]⟩) (hu : 0 < u.numel) (n : Fin N) {step : Pair → Pair → Pair} (hs : Picks step) :
    RefRun.secondOf (F := Ideal) step f (iotaInDim ⟨2, ![N, 1024]⟩ 32 1) a b h hu (ix1 n) = BitVec.ofNat 32 (best fun k => f (ix2 n k)).val := by
  rw [RefRun.secondOf, Ideal.argReduce_eq_reduce2, Host.reduce2_eq_foldl_fiber, ha, hb]
  refine fold_pick hs _ _ fun p => ?_
  rw [mem_fiber]
  constructor
  · rintro ⟨i, hi, rfl⟩
    obtain ⟨k, hk⟩ := (h.fiber_r2_a1 _ _).1 hi
    refine ⟨k, ?_⟩
    rw [← hk]
    rfl
  · rintro ⟨k, rfl⟩
    exact ⟨ix2 n k, (h.fiber_r2_a1 _ _).2 ⟨k, rfl⟩, rfl⟩

/-- The index result of a row: the number of the first code at the smallest distance. -/
theorem nearest_apply (f : FVec Ideal S32768x1024 .f32) (n : Fin 32768) :
    RefRun.nearest (F := Ideal) f (ix1 n) = BitVec.ofNat 32 (best fun k => f (ix2 n k)).val := by
  unfold RefRun.nearest
  exact search (N := 32768) f _ _ (fun _ => top_word) (fun _ => rfl) _ _ n picks_first

/-- A row number of a code is read as it is. -/
theorem wrapped_apply (i : S32768.Idx → BitVec 32) (n : Fin 32768) (o : Fin 1) (k : Fin 1024) (h : i (ix1 n) = BitVec.ofNat 32 k.val) :
    RefRun.wrapped i (ix2 n o) = BitVec.ofNat 32 k.val := by
  pointwise [RefRun.wrapped]
  rw [h]
  have e : IntOp.cmpi .slt (BitVec.ofNat 32 k.val) 0#32 = BitVec.ofBool (decide ((BitVec.ofNat 32 k.val).toInt < 0)) := rfl
  rw [e, toInt_word, decide_eq_false (by omega)]
  rfl

/-- It is inside the table. -/
theorem inside_apply (w : S32768x1.Idx → BitVec 32) (h : ∀ i, ∃ k : Fin 1024, w i = BitVec.ofNat 32 k.val) (n : Fin 32768) :
    RefRun.inside w (ix1 n) = 1#1 := by
  refine Host.reduce_andi_one _ _ _ _ _ rfl fun i => ?_
  obtain ⟨k, hk⟩ := h i
  pointwise
  have e : IntOp.cmpi .sge (BitVec.ofNat 32 k.val) 0#32 = BitVec.ofBool (decide (0 ≤ (BitVec.ofNat 32 k.val).toInt)) := rfl
  have e' : IntOp.cmpi .sle (BitVec.ofNat 32 k.val) 1023#32 = BitVec.ofBool (decide ((BitVec.ofNat 32 k.val).toInt ≤ 1023)) := rfl
  rw [hk, e, e', toInt_word, decide_eq_true (by omega), decide_eq_true (by omega)]
  rfl

/-- The gather reads the row it names. -/
theorem gather_apply (e : FVec Ideal S1024x64 .f32) (w : S32768x1.Idx → BitVec 32) (n : Fin 32768) (c : Fin 64) (k : Fin 1024) (h : w (ix2 n 0) = BitVec.ofNat 32 k.val) :
    Host.gather gather_S1024x64_S32768x1_S32768x64_1_0_n_n_0_1_164 e w (ix2 n c) = e (ix2 k c) := by
  unfold Host.gather
  refine congrArg e (funext fun a => Fin.ext ?_)
  match a with
  | ⟨0, _⟩ =>
    show (gather_S1024x64_S32768x1_S32768x64_1_0_n_n_0_1_164).start (ix2 n c) w 0 + (gather_S1024x64_S32768x1_S32768x64_1_0_n_n_0_1_164).batchCoord (ix2 n c) 0
      + (gather_S1024x64_S32768x1_S32768x64_1_0_n_n_0_1_164).offCoord (ix2 n c) 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S1024x64_S32768x1_S32768x64_1_0_n_n_0_1_164).startIndexMap from List.mem_singleton.mpr rfl)]
    have hs : (gather_S1024x64_S32768x1_S32768x64_1_0_n_n_0_1_164).siIdx (ix2 n c)
        ⟨List.idxOf (0 : Fin 2) (gather_S1024x64_S32768x1_S32768x64_1_0_n_n_0_1_164).startIndexMap, List.idxOf_lt_length_iff.2 (List.mem_singleton.mpr rfl)⟩ = ix2 n 0 := by
      funext b
      match b with
      | ⟨0, _⟩ => rfl
      | ⟨1, _⟩ => rfl
    rw [hs, h, toInt_word]
    show min k.val 1023 + 0 + 0 = k.val
    omega
  | ⟨1, _⟩ =>
    show (gather_S1024x64_S32768x1_S32768x64_1_0_n_n_0_1_164).start (ix2 n c) w 1 + (gather_S1024x64_S32768x1_S32768x64_1_0_n_n_0_1_164).batchCoord (ix2 n c) 1
      + (gather_S1024x64_S32768x1_S32768x64_1_0_n_n_0_1_164).offCoord (ix2 n c) 1 = c.val
    rw [GatherDims.batchCoord_eq_zero _ _ _ List.not_mem_nil]
    unfold GatherDims.start
    rw [dif_neg (show (1 : Fin 2) ∉ (gather_S1024x64_S32768x1_S32768x64_1_0_n_n_0_1_164).startIndexMap from fun h => by cases List.mem_singleton.1 h)]
    refine (Nat.zero_add _).trans ?_
    rfl

end Cert.Proof.RefVals

end
-- ==== Proof.Ends.lean ====
/- What the kernel's three results hold at its end, over the extended reals. -/
module

public import proofs.«01_k».proof.Proof.Held
public import proofs.«01_k».proof.Proof.FinSt

@[expose] public section

set_option maxRecDepth 16384

noncomputable section

namespace Cert.Proof.Ends

open Cert.KernelIdeal Cert.KernelIdeal.Gen Cert.Proof Cert.Proof.Vals Cert.Proof.Keep Cert.Proof.Best Cert.Proof.Pay Cert.Proof.FinFirst Cert.Proof.FinSt Cert.Proof.Held
open Idealize.ShloMosaic Idealize.ShloMosaic.TcCoe

/-- Gathering the padded table's rows by the list of nearest codes gives the nearest codes. -/
theorem gathered_list (x : Vec Ideal S32768x64 .f32) (e : Vec Ideal S1024x64 .f32) (b : ℕ) (hb : b ≤ 16384) :
    Gathered x e b (Rows.gOut (F := Ideal) (k0_pay5 (F := Ideal) e) (listArr x e b hb)) := fun r k h => by
  rw [code, ← pay5_apply e (best (far x e ⟨b + r.val, h⟩)) k, Rows.gOut]
  refine congrArg (k0_pay5 (F := Ideal) e) ?_
  have hw : Fin.ofNat 1024 (BitVec.toNat (listArr x e b hb (fun | 0 => r))) = best (far x e ⟨b + r.val, h⟩) := by
    apply Fin.ext
    rw [listArr, near, toNat_word]
    exact Nat.mod_eq_of_lt (Fin.isLt _)
  funext a
  match a with
  | 0 => exact hw
  | 1 => rfl

variable (m : (ℓ : Loc nD τ sig) → Buf (Elt Ideal) ℓ) (d : Dev nD)

theorem v2_3 : at_ (W3 m) d main_v2 = Rows.gOut (F := Ideal) (table (W2 m) d) (list1 (W2 m) d) := by
  unfold at_ W3 gather1; exact Function.update_self _ _ _
theorem v4_5 : at_ (W5 m) d main_v4 = Rows.gOut (F := Ideal) (table (W4 m) d) (list3 (W4 m) d) := by
  unfold at_ W5 gather3; exact Function.update_self _ _ _

theorem rows5 : Gathered (at_ (W5 m) d main_v0) (E m d) 0 (at_ (W5 m) d main_v2) := by
  rw [(keep5 m d main_v2 (by decide)).trans ((keep4 m d main_v2 (by decide)).trans (v2_3 m d)), Held.table_eq, list1_eq, v0_5 m d]
  exact gathered_list _ _ _ _

theorem rows7 : Gathered (at_ (W7 m) d main_v0) (E m d) 16384 (at_ (W7 m) d main_v4) := by
  rw [(keep7 m d main_v4 (by decide)).trans ((keep6 m d main_v4 (by decide)).trans (v4_5 m d)), table4, Held.table_eq, list3_eq, v0_7 m d]
  exact gathered_list _ _ _ _

/-- The first half of the rows, in the array that the second call goes on with. -/
theorem v6_7 (i : S32768x64.Idx) (hi : (i 0).val < 16384) : (at_ (W7 m) d main_v6 : Vec Ideal S32768x64 .f32) i = moved (at_ (W7 m) d main_v0) (E m d) i := by
  have h : at_ (W7 m) d main_v6 = at_ (W6 m) d main_v5 := StableHlo.unary_result main_v5 main_v6 _ ⟨by decide, rfl⟩ ⟨by decide, rfl⟩ (W6 m d)
  rw [h, v0_7, ← v0_5]
  exact (congrFun (arr6 m d 2) i).trans (first_eq (at_ (W5 m)) _ _ d (E m d) (rows5 m d) i hi)

theorem v6_8 : at_ (W8 m) d main_v6 = moved (X m d) (E m d) := by
  refine (arr8 m d 2).trans ((last_eq (at_ (W7 m)) _ _ d (E m d) (rows7 m d) (v6_7 m d)).trans ?_)
  rw [v0_7]; rfl

/-- The straight-through result. -/
theorem out_end : at_ (W11 m) d main_v8 = shapeCast S32x1024x64 (moved (X m d) (E m d)) shapeCasts_S32768x64_S32x1024x64 := by
  rw [keep11 m d main_v8 (by decide)]
  refine (StableHlo.reshape_result main_v6 main_v8 rfl shapeCasts_S32768x64_S32x1024x64 ⟨by decide, rfl⟩ ⟨by decide, rfl⟩ (W9 m d)).trans ?_
  exact congrArg (fun x : Vec Ideal S32768x64 .f32 => shapeCast S32x1024x64 x shapeCasts_S32768x64_S32x1024x64)
    ((keep9 m d main_v6 (by decide)).trans (v6_8 m d))

/-- The loss. -/
theorem loss_end (j : S_.Idx) : (at_ (W11 m) d main_v9 : Vec Ideal S_ .f32) j = scaled (half (X m d) (E m d) 16 + half (X m d) (E m d) 0) := by
  have h : at_ (W10 m) d main_v3_1 = single (scaled (half (X m d) (E m d) 16 + half (X m d) (E m d) 0)) :=
    (keep10 m d _ (by decide)).trans ((keep9 m d _ (by decide)).trans ((keep8 m d _ (by decide)).trans ((keep7 m d _ (by decide)).trans
      ((keep6 m d _ (by decide)).trans ((keep5 m d main_v3_1 (by decide)).trans (loss4 m d))))))
  have h' : at_ (W11 m) d main_v9 = shapeCast S_ (at_ (W10 m) d main_v3_1 : Vec Ideal S1x1 .f32) shapeCasts_S1x1_S_ :=
    StableHlo.reshape_result main_v3_1 main_v9 rfl shapeCasts_S1x1_S_ ⟨by decide, rfl⟩ ⟨by decide, rfl⟩ (W10 m d)
  rw [h', h]; rfl

/-- The list of the nearest codes. -/
def nearAll (x : Vec Ideal S32768x64 .f32) (e : Vec Ideal S1024x64 .f32) : Vec Ideal S32768 .i32 := fun j => near x e (j 0)

theorem cat_lists (x : Vec Ideal S32768x64 .f32) (e : Vec Ideal S1024x64 .f32) :
    concatenate S32768 0 [⟨S16384, listArr x e 0 (by decide)⟩, ⟨S16384, listArr x e 16384 le_rfl⟩] concatenates_S16384_S16384_S32768_d0 = nearAll x e := by
  funext j
  obtain ⟨n, rfl⟩ : ∃ n : Fin 32768, j = ix1 n := ⟨j 0, eq_ix1 j⟩
  pointwise
  split
  · exact congrArg (near x e) (Fin.ext (Nat.zero_add _))
  · refine congrArg (near x e) (Fin.ext ?_)
    show 16384 + (n.val - 16384) = n.val
    omega

theorem idx_end : at_ (W11 m) d main_v7 = nearAll (X m d) (E m d) := by
  rw [keep11 m d main_v7 (by decide), keep10 m d main_v7 (by decide)]
  have h1 : at_ (W8 m) d main_v1_0 = listArr (X m d) (E m d) 0 (by decide) :=
    (keep8 m d _ (by decide)).trans ((keep7 m d _ (by decide)).trans ((keep6 m d _ (by decide)).trans ((keep5 m d _ (by decide)).trans
      ((keep4 m d _ (by decide)).trans ((keep3 m d main_v1_0 (by decide)).trans (list1_eq m d))))))
  have h3 : at_ (W8 m) d main_v3_0 = listArr (X m d) (E m d) 16384 le_rfl :=
    (keep8 m d _ (by decide)).trans ((keep7 m d _ (by decide)).trans ((keep6 m d _ (by decide)).trans ((keep5 m d main_v3_0 (by decide)).trans (list3_eq m d))))
  refine (StableHlo.binary_result main_v1_0 main_v3_0 main_v7 _ ⟨by decide, rfl⟩ ⟨by decide, rfl⟩ ⟨by decide, rfl⟩ (W8 m d)).trans ?_
  refine Eq.trans ?_ (cat_lists (X m d) (E m d))
  rw [show W8 m d (Proc.devRef .tc main_v1_0) = _ from h1, show W8 m d (Proc.devRef .tc main_v3_0) = _ from h3]

end Cert.Proof.Ends

end
-- ==== Proof.RefFin.lean ====
/- What the reference computes of arguments that are real numbers, in the same closed form as the kernel's results: the nearest
   codes, the input moved by its distance to them, and the loss as the scaled sum of the smallest distances. -/
module

public import proofs.«01_k».proof.Proof.RefVals
public import proofs.«01_k».proof.Proof.Ends

@[expose] public section

set_option maxRecDepth 16384

noncomputable section

namespace Cert.Proof.RefFin

open Cert.ReferenceIdeal Cert.ReferenceIdeal.Gen Cert.Proof Cert.Proof.Best Cert.Proof.Pay Cert.Proof.FinFirst Cert.Proof.FinSt
open Idealize.ShloMosaic

variable (x : FVec Ideal S32x1024x64 .f32) (e : FVec Ideal S1024x64 .f32)

/-- The input, one vector to a row. -/
abbrev flat : FVec Ideal S32768x64 .f32 := RefRun.flat (F := Ideal) x

theorem flat_real (hx : ∀ i, ∃ r : ℝ, x i = (r : EReal)) (i : S32768x64.Idx) : ∃ r : ℝ, flat x i = (r : EReal) := hx _

theorem dists_far (hx : ∀ i, ∃ r : ℝ, x i = (r : EReal)) (he : ∀ i, ∃ r : ℝ, e i = (r : EReal)) (n : Fin 32768) (k : Fin 1024) :
    RefRun.dists (F := Ideal) x e (ix2 n k) = far (flat x) e n k := by
  rw [RefVals.dists_apply]
  obtain ⟨f, hf⟩ := Classical.axiom_of_choice (flat_real x hx)
  obtain ⟨g, hg⟩ := Classical.axiom_of_choice he
  have h := double_real (fun c => f (ix2 n c)) (fun c => g (ix2 k c))
  have hs : (∑ c : Fin 64, (2 * RefRun.flat (F := Ideal) x (ix2 n c)) * e (ix2 k c)) = 2 * ∑ c : Fin 64, RefRun.flat (F := Ideal) x (ix2 n c) * e (ix2 k c) := by
    simp only [hf, hg]
    exact h
  rw [hs]
  rfl

/-- The number of the code nearest to a row. -/
theorem idx_apply (hx : ∀ i, ∃ r : ℝ, x i = (r : EReal)) (he : ∀ i, ∃ r : ℝ, e i = (r : EReal)) (n : Fin 32768) :
    RefRun.idxOf (F := Ideal) x e (ix1 n) = near (flat x) e n := by
  rw [RefRun.idxOf, RefVals.nearest_apply, funext (dists_far x e hx he n), near]

theorem idx_eq (hx : ∀ i, ∃ r : ℝ, x i = (r : EReal)) (he : ∀ i, ∃ r : ℝ, e i = (r : EReal)) :
    RefRun.idxOf (F := Ideal) x e = Ends.nearAll (flat x) e := by
  funext j
  obtain ⟨n, rfl⟩ : ∃ n : Fin 32768, j = ix1 n := ⟨j 0, eq_ix1 j⟩
  exact idx_apply x e hx he n

/-- The rows taken are the nearest codes. -/
theorem taken_apply (hx : ∀ i, ∃ r : ℝ, x i = (r : EReal)) (he : ∀ i, ∃ r : ℝ, e i = (r : EReal)) (n : Fin 32768) (c : Fin 64) :
    RefRun.taken (F := Ideal) e (RefRun.idxOf (F := Ideal) x e) (ix2 n c) = code (flat x) e n c := by
  have hw : ∀ (n : Fin 32768) (o : Fin 1), RefRun.wrapped (RefRun.idxOf (F := Ideal) x e) (ix2 n o) = BitVec.ofNat 32 (best (far (flat x) e n)).val :=
    fun n o => RefVals.wrapped_apply _ n o _ (idx_apply x e hx he n)
  have hi := RefVals.inside_apply (RefRun.wrapped (RefRun.idxOf (F := Ideal) x e)) (fun i => ⟨best (far (flat x) e (i 0)), by
    obtain ⟨n, o, rfl⟩ : ∃ (n : Fin 32768) (o : Fin 1), i = ix2 n o := ⟨i 0, i 1, eq_ix2 i⟩
    exact hw n o⟩) n
  have hg := RefVals.gather_apply e (RefRun.wrapped (RefRun.idxOf (F := Ideal) x e)) n c _ (hw n 0)
  unfold RefRun.taken
  generalize RefRun.wrapped (RefRun.idxOf (F := Ideal) x e) = w at hi hg ⊢
  generalize RefRun.inside w = v at hi ⊢
  have hb : broadcastInDim S32768x64 ![0] bcast_S32768_S32768x64_0 v (ix2 n c) = v (ix1 n) := by pointwise
  show Scalar.select (broadcastInDim S32768x64 ![0] bcast_S32768_S32768x64_0 v (ix2 n c)) _ _ = _
  rw [hb, hi]
  exact hg

/-- The rows taken, as an array. -/
theorem taken_eq (hx : ∀ i, ∃ r : ℝ, x i = (r : EReal)) (he : ∀ i, ∃ r : ℝ, e i = (r : EReal)) :
    RefRun.taken (F := Ideal) e (RefRun.idxOf (F := Ideal) x e) = fun i => code (flat x) e (i 0) (i 1) := by
  funext i
  obtain ⟨n, c, rfl⟩ : ∃ (n : Fin 32768) (c : Fin 64), i = ix2 n c := ⟨i 0, i 1, eq_ix2 i⟩
  exact taken_apply x e hx he n c

theorem flat_back (j : S32x1024x64.Idx) : x j = shapeCast S32x1024x64 (flat x) shapeCasts_S32768x64_S32x1024x64 j :=
  (congrFun (Idealize.ShloMosaic.shapeCast_shapeCast x shapeCasts_S32x1024x64_S32768x64 shapeCasts_S32768x64_S32x1024x64) j).symm

/-- The vectors passed on. -/
theorem out_eq (hx : ∀ i, ∃ r : ℝ, x i = (r : EReal)) (he : ∀ i, ∃ r : ℝ, e i = (r : EReal)) :
    RefRun.passed (F := Ideal) (RefRun.qOf (F := Ideal) x e) x = shapeCast S32x1024x64 (moved (flat x) e) shapeCasts_S32768x64_S32x1024x64 := by
  rw [RefRun.qOf, taken_eq x e hx he]
  funext j
  have h := flat_back x j
  show x j + (shapeCast S32x1024x64 (fun i => code (flat x) e (i 0) (i 1)) shapeCasts_S32768x64_S32x1024x64 j - x j) = _
  rw [h]
  rfl

/-- A row's smallest distance is the sum of the squared differences from its nearest code. -/
theorem lowest_sum (hx : ∀ i, ∃ r : ℝ, x i = (r : EReal)) (he : ∀ i, ∃ r : ℝ, e i = (r : EReal)) (n : Fin 32768) :
    (∑ c : Fin 64, (code (flat x) e n c - flat x (ix2 n c)) * (code (flat x) e n c - flat x (ix2 n c))) = lowest (flat x) e n.val := by
  rw [lowest, dif_pos n.isLt, ← best_spec]
  show _ = far (flat x) e n (best (far (flat x) e n))
  unfold code
  generalize best (far (flat x) e n) = k
  obtain ⟨f, hf⟩ := Classical.axiom_of_choice (flat_real x hx)
  obtain ⟨g, hg⟩ := Classical.axiom_of_choice he
  have h := dist_real (fun c => f (ix2 n c)) (fun k c => g (ix2 k c)) k
  have hd : far (flat x) e n k = dist (fun c => ((f (ix2 n c) : ℝ) : EReal)) (fun k c => ((g (ix2 k c) : ℝ) : EReal)) k := by
    refine congrArg₂ (fun z w => dist z w k) (funext fun c => hf _) (funext fun k => funext fun c => hg _)
  rw [hd, h]
  simp only [hf, hg]
  push_cast
  rfl

/-- 2^21 as a word. -/
theorem count_word : Ideal.ofBits .f32 0x4A000000#32 = ((2097152 : ℝ) : EReal) := by
  simp [Ideal.ofBits, Ideal.ieee, -EReal.coe_mul]; norm_num

/-- Row `b` of block `a`, in the vectors' shape and one to a row. -/
theorem cast_apply (f : FVec Ideal S32768x64 .f32) (a : Fin 32) (b : Fin 1024) (c : Fin 64) (h : a.val * 1024 + b.val < 32768) :
    shapeCast S32x1024x64 f shapeCasts_S32768x64_S32x1024x64 (ix3 a b c) = f (ix2 ⟨a.val * 1024 + b.val, h⟩ c) := by
  pointwise

/-- The total of the squared differences is the sum of the smallest distances. -/
theorem total (hx : ∀ i, ∃ r : ℝ, x i = (r : EReal)) (he : ∀ i, ∃ r : ℝ, e i = (r : EReal)) :
    (∑ a : Fin 32, ∑ b : Fin 1024, ∑ c : Fin 64, (RefRun.qOf (F := Ideal) x e (ix3 a b c) - x (ix3 a b c)) * (RefRun.qOf (F := Ideal) x e (ix3 a b c) - x (ix3 a b c)))
      = half (flat x) e 16 + half (flat x) e 0 := by
  have hb : ∀ a : Fin 32, (∑ b : Fin 1024, ∑ c : Fin 64, (RefRun.qOf (F := Ideal) x e (ix3 a b c) - x (ix3 a b c)) * (RefRun.qOf (F := Ideal) x e (ix3 a b c) - x (ix3 a b c)))
      = blockSum (flat x) e a.val := fun a => Finset.sum_congr rfl fun b _ => by
    have h : a.val * 1024 + b.val < 32768 := by have := a.isLt; have := b.isLt; omega
    rw [← lowest_sum x e hx he ⟨a.val * 1024 + b.val, h⟩]
    refine Finset.sum_congr rfl fun c _ => ?_
    rw [flat_back x (ix3 a b c), RefRun.qOf, taken_eq x e hx he, RefRun.shaped, cast_apply _ a b c h, cast_apply _ a b c h]
    rfl
  rw [Finset.sum_congr rfl fun a _ => hb a, Fin.sum_univ_eq_sum_range (fun t => blockSum (flat x) e t) 32, half, half,
    add_comm, show (32 : ℕ) = 16 + 16 from rfl, Finset.sum_range_add]
  simp only [Nat.zero_add]

theorem mean_eq (q : FVec Ideal S32x1024x64 .f32) (j : S_.Idx) : RefRun.mean (F := Ideal) q x j
    = (∑ a : Fin 32, ∑ b : Fin 1024, ∑ c : Fin 64, (q (ix3 a b c) - x (ix3 a b c)) * (q (ix3 a b c) - x (ix3 a b c))) * ((1 / 2097152 : ℝ) : EReal) := by
  pointwise [RefRun.mean]
  rw [← Ideal.div_coe (by norm_num : (2097152 : ℝ) ≠ 0), ← count_word]

/-- The loss. -/
theorem loss_eq (hx : ∀ i, ∃ r : ℝ, x i = (r : EReal)) (he : ∀ i, ∃ r : ℝ, e i = (r : EReal)) (j : S_.Idx) :
    RefRun.loss (F := Ideal) (RefRun.qOf (F := Ideal) x e) x j = scaled (half (flat x) e 16 + half (flat x) e 0) := by
  rw [scaled, ← total x e hx he, ← mean_eq x _ j, ← quarter_word]
  rfl

end Cert.Proof.RefFin

end
-- ==== Proof.Same.lean ====
/- Both programs, run on the same real arguments, end with the same three results. -/
module

public import proofs.«01_k».proof.Proof.Quiet
public import proofs.«01_k».proof.Proof.RefFin

@[expose] public section

set_option maxRecDepth 16384

noncomputable section

namespace Cert.Proof.Same

open Cert.Proof
open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The two arguments on a device. -/
abbrev arg0 : Vec Ideal Cert.KernelIdeal.S32x1024x64 .f32 := m ((c.tc : Thread Cert.KernelIdeal.nD Cert.KernelIdeal.τ).loc Cert.KernelIdeal.main_arg0)
abbrev arg1 : Vec Ideal Cert.KernelIdeal.S1024x64 .f32 := m ((c.tc : Thread Cert.KernelIdeal.nD Cert.KernelIdeal.τ).loc Cert.KernelIdeal.main_arg1)

theorem input_eq : Held.X m c = RefFin.flat (arg0 m c) := Keep.v0_1 m c

variable (hx : ∀ i, ∃ r : ℝ, arg0 m c i = (r : EReal)) (he : ∀ i, ∃ r : ℝ, arg1 m c i = (r : EReal))
include hx he

theorem out_same : RefRun.passed (F := Ideal) (RefRun.qOf (F := Ideal) (arg0 m c) (arg1 m c)) (arg0 m c) = Vals.at_ (Vals.W11 m) c Cert.KernelIdeal.main_v8 := by
  rw [RefFin.out_eq _ _ hx he, Ends.out_end, input_eq]
  rfl

theorem loss_same : RefRun.loss (F := Ideal) (RefRun.qOf (F := Ideal) (arg0 m c) (arg1 m c)) (arg0 m c) = Vals.at_ (Vals.W11 m) c Cert.KernelIdeal.main_v9 := by
  funext j
  rw [RefFin.loss_eq _ _ hx he]
  refine Eq.trans ?_ (Ends.loss_end m c j).symm
  rw [input_eq]
  rfl

theorem idx_same : RefRun.idxOf (F := Ideal) (arg0 m c) (arg1 m c) = Vals.at_ (Vals.W11 m) c Cert.KernelIdeal.main_v7 := by
  rw [RefFin.idx_eq _ _ hx he, Ends.idx_end, input_eq]
  rfl

end Cert.Proof.Same

end
-- ==== Proof.lean ====
/- The proof of the claims: both programs run to their end, leave their arguments as they were and every semaphore at zero, and over
   the extended reals they end with the same three results of the same finite arguments. -/
module

public import proofs.«01_k».proof.Defs
public import proofs.«01_k».proof.Proof.Gen.KernelIdeal
public import proofs.«01_k».proof.Proof.Gen.ReferenceIdeal
public import proofs.«01_k».proof.Proof.Gen.Pre_finite_inputs
public import proofs.«01_k».proof.Proof.Quiet
public import proofs.«01_k».proof.Proof.Finite
public import proofs.«01_k».proof.Proof.Same

@[expose] public section

noncomputable section

namespace Cert.Proof

open Idealize.ShloMosaic Idealize.ShloMosaic.TcCoe Idealize.SL.Sem

/-- The reference's three results are what the kernel leaves at its end. -/
theorem same : Cert.algebraic_KernelIdeal_ReferenceIdeal_pre_finite_inputs := by
  intro m g m' g' hpre hm
  have hr : ∀ c, (∀ i, ∃ r : ℝ, Same.arg0 m c i = (r : EReal)) ∧ ∀ i, ∃ r : ℝ, Same.arg1 m c i = (r : EReal) :=
    fun c => Finite.real_args _ _ (hpre c)
  refine ⟨fun c => Vals.at_ (Vals.W11 m) c Cert.KernelIdeal.main_v8, fun c => Vals.at_ (Vals.W11 m) c Cert.KernelIdeal.main_v9,
    fun c => Vals.at_ (Vals.W11 m) c Cert.KernelIdeal.main_v7,
    θ_run_mono (Quiet.kernel m g) fun r h c => ⟨h.1 c _ (by decide), h.1 c _ (by decide), h.1 c _ (by decide),
      (h.1 c _ (by decide)).trans (Keep.arg0_11 m c), (h.1 c _ (by decide)).trans (Keep.arg1_11 m c)⟩,
    θ_run_mono (RefRun.run_main m' g') fun r h c => ⟨?_, ?_, ?_, (h c _).trans (RefRun.end_arg0 _), (h c _).trans (RefRun.end_arg1 _)⟩⟩
  · refine ((h c _).trans (RefRun.end_out _)).trans (Eq.trans ?_ (Same.out_same m c (hr c).1 (hr c).2))
    exact congrArg₂ (fun x e => RefRun.passed (F := Ideal) (RefRun.qOf (F := Ideal) x e) x) (hm c).1 (hm c).2
  · refine ((h c _).trans (RefRun.end_loss _)).trans (Eq.trans ?_ (Same.loss_same m c (hr c).1 (hr c).2))
    exact congrArg₂ (fun x e => RefRun.loss (F := Ideal) (RefRun.qOf (F := Ideal) x e) x) (hm c).1 (hm c).2
  · refine ((h c _).trans (RefRun.end_idx _)).trans (Eq.trans ?_ (Same.idx_same m c (hr c).1 (hr c).2))
    exact congrArg₂ (fun x e => RefRun.idxOf (F := Ideal) x e) (hm c).1 (hm c).2

/-- The claims, each from the run of its program. -/
theorem claim : Cert.Claim := ⟨Cert.KernelIdeal.Gen.facts, Cert.ReferenceIdeal.Gen.facts, Cert.Pre_finite_inputs.Gen.facts,
  fun m g _ => Quiet.kernel_quiet m g, fun m g _ => Quiet.kernel_quiet m g,
  fun m g _ => Quiet.reference_quiet m g, fun m g _ => Quiet.reference_quiet m g, same⟩

end Cert.Proof

end
